-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inside_bins [hPre_inside_bins : Cert.Pre_inside_bins.Facts] (m : (ℓ : Loc Cert.KernelIdeal.nD Cert.KernelIdeal.τ Cert.KernelIdeal.sig) → Buf (Elt Ideal) ℓ) : Prop :=
  ∀ c : Dev Cert.KernelIdeal.nD,
    (Cert.Pre_inside_bins.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_inside_bins.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_inside_bins.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inside_bins [hPre_inside_bins : Cert.Pre_inside_bins.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inside_bins.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_inside_bins.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_inside_bins.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_inside_bins [hKernelIdeal : Cert.KernelIdeal.Facts] [hPre_inside_bins : Cert.Pre_inside_bins.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inside_bins m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_inside_bins [hReferenceIdeal : Cert.ReferenceIdeal.Facts] [hPre_inside_bins : Cert.Pre_inside_bins.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inside_bins m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "third" .f32 0x3EAAAAAB#32 ((1 / 3 : ℝ) : EReal)

def algebraic_KernelIdeal_ReferenceIdeal_pre_inside_bins [hKernelIdeal : Cert.KernelIdeal.Facts] [hReferenceIdeal : Cert.ReferenceIdeal.Facts] [hPre_inside_bins : Cert.Pre_inside_bins.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inside_bins m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_inside_bins : Cert.Pre_inside_bins.Facts),
    quiescent_Kernel (hKernel := hKernel)
    ∧ quiescent_KernelIdeal (hKernelIdeal := hKernelIdeal)
    ∧ quiescent_KernelIdeal_pre_inside_bins (hKernelIdeal := hKernelIdeal) (hPre_inside_bins := hPre_inside_bins)
    ∧ quiescent_ReferenceIdeal (hReferenceIdeal := hReferenceIdeal)
    ∧ quiescent_ReferenceIdeal_pre_inside_bins (hReferenceIdeal := hReferenceIdeal) (hPre_inside_bins := hPre_inside_bins)
    ∧ preserves_Kernel_KernelIdeal
    ∧ algebraic_KernelIdeal_ReferenceIdeal_pre_inside_bins (hKernelIdeal := hKernelIdeal) (hReferenceIdeal := hReferenceIdeal) (hPre_inside_bins := hPre_inside_bins)
-- ==== Pre_inside_bins.lean ====
abbrev S32x3x512x512 : Shape := ⟨4, ![32, 3, 512, 512]⟩
abbrev S2x1x3x3 : Shape := ⟨4, ![2, 1, 3, 3]⟩
abbrev S2x3x3 : Shape := ⟨3, ![2, 3, 3]⟩
abbrev S_ : Shape := ⟨0, ![]⟩
abbrev S32x512x512 : Shape := ⟨3, ![32, 512, 512]⟩
abbrev S32x514x514 : Shape := ⟨3, ![32, 514, 514]⟩
abbrev S1x1x1x1 : Shape := ⟨4, ![1, 1, 1, 1]⟩

class Facts : Prop where
  bcast_S2x3x3_S2x1x3x3_0_2_3 : S2x3x3.BroadcastsInDim S2x1x3x3 (![0, 2, 3] : Fin 3 → Fin S2x1x3x3.rank)
  reducesTo_S32x3x512x512_S32x512x512_d1 : S32x3x512x512.ReducesTo [1] S32x512x512
  h_S_ : 0 < S_.numel
  bcast_S_S32x512x512 : S_.BroadcastsInDim S32x512x512 (![] : Fin 0 → Fin S32x512x512.rank)
  pads_S32x512x512_S32x514x514_000_110_110 : S32x512x512.Pads (![0, 1, 1] : Fin 3 → Nat) ![0, 1, 1] ![0, 0, 0] S32x514x514
  slices_S2x1x3x3_S1x1x1x1_0_0_0_0 : S2x1x3x3.Slices ![0, 0, 0, 0] S1x1x1x1
  shapeCasts_S1x1x1x1_S_ : S1x1x1x1.ShapeCasts S_
  slices_S32x514x514_S32x512x512_0_0_0 : S32x514x514.Slices ![0, 0, 0] S32x512x512
  slices_S2x1x3x3_S1x1x1x1_0_0_0_1 : S2x1x3x3.Slices ![0, 0, 0, 1] S1x1x1x1
  slices_S32x514x514_S32x512x512_0_0_1 : S32x514x514.Slices ![0, 0, 1] S32x512x512
  slices_S2x1x3x3_S1x1x1x1_0_0_0_2 : S2x1x3x3.Slices ![0, 0, 0, 2] S1x1x1x1
  slices_S32x514x514_S32x512x512_0_0_2 : S32x514x514.Slices ![0, 0, 2] S32x512x512
  slices_S2x1x3x3_S1x1x1x1_0_0_1_0 : S2x1x3x3.Slices ![0, 0, 1, 0] S1x1x1x1
  slices_S32x514x514_S32x512x512_0_1_0 : S32x514x514.Slices ![0, 1, 0] S32x512x512
  slices_S2x1x3x3_S1x1x1x1_0_0_1_1 : S2x1x3x3.Slices ![0, 0, 1, 1] S1x1x1x1
  slices_S32x514x514_S32x512x512_0_1_1 : S32x514x514.Slices ![0, 1, 1] S32x512x512
  slices_S2x1x3x3_S1x1x1x1_0_0_1_2 : S2x1x3x3.Slices ![0, 0, 1, 2] S1x1x1x1
  slices_S32x514x514_S32x512x512_0_1_2 : S32x514x514.Slices ![0, 1, 2] S32x512x512
  slices_S2x1x3x3_S1x1x1x1_0_0_2_0 : S2x1x3x3.Slices ![0, 0, 2, 0] S1x1x1x1
  slices_S32x514x514_S32x512x512_0_2_0 : S32x514x514.Slices ![0, 2, 0] S32x512x512
  slices_S2x1x3x3_S1x1x1x1_0_0_2_1 : S2x1x3x3.Slices ![0, 0, 2, 1] S1x1x1x1
  slices_S32x514x514_S32x512x512_0_2_1 : S32x514x514.Slices ![0, 2, 1] S32x512x512
  slices_S2x1x3x3_S1x1x1x1_0_0_2_2 : S2x1x3x3.Slices ![0, 0, 2, 2] S1x1x1x1
  slices_S32x514x514_S32x512x512_0_2_2 : S32x514x514.Slices ![0, 2, 2] S32x512x512
  slices_S2x1x3x3_S1x1x1x1_1_0_0_0 : S2x1x3x3.Slices ![1, 0, 0, 0] S1x1x1x1
  slices_S2x1x3x3_S1x1x1x1_1_0_0_1 : S2x1x3x3.Slices ![1, 0, 0, 1] S1x1x1x1
  slices_S2x1x3x3_S1x1x1x1_1_0_0_2 : S2x1x3x3.Slices ![1, 0, 0, 2] S1x1x1x1
  slices_S2x1x3x3_S1x1x1x1_1_0_1_0 : S2x1x3x3.Slices ![1, 0, 1, 0] S1x1x1x1
  slices_S2x1x3x3_S1x1x1x1_1_0_1_1 : S2x1x3x3.Slices ![1, 0, 1, 1] S1x1x1x1
  slices_S2x1x3x3_S1x1x1x1_1_0_1_2 : S2x1x3x3.Slices ![1, 0, 1, 2] S1x1x1x1
  slices_S2x1x3x3_S1x1x1x1_1_0_2_0 : S2x1x3x3.Slices ![1, 0, 2, 0] S1x1x1x1
  slices_S2x1x3x3_S1x1x1x1_1_0_2_1 : S2x1x3x3.Slices ![1, 0, 2, 1] S1x1x1x1
  slices_S2x1x3x3_S1x1x1x1_1_0_2_2 : S2x1x3x3.Slices ![1, 0, 2, 2] S1x1x1x1

variable [Facts]

noncomputable abbrev lit0 : Fin 18 → BitVec 32 := fun
  | 0 => 0x3F800000#32 | 1 => 0x00000000#32 | 2 => 0xBF800000#32 | 3 => 0x40000000#32 | 4 => 0x00000000#32 | 5 => 0xC0000000#32 | 6 => 0x3F800000#32 | 7 => 0x00000000#32
  | 8 => 0xBF800000#32 | 9 => 0x3F800000#32 | 10 => 0x40000000#32 | 11 => 0x3F800000#32 | 12 => 0x00000000#32 | 13 => 0x00000000#32 | 14 => 0x00000000#32 | 15 => 0xBF800000#32
  | 16 => 0xC0000000#32 | 17 => 0xBF800000#32
  | _ => 0#32

def fn_part5 {F : FTy → Type} [FloatOps F] (main_arg1 : FVec F S2x1x3x3 .f32) (main_v0 : FVec F S2x1x3x3 .f32) (main_v59 : FVec F S32x512x512 .f32) (main_v108 : FVec F S32x512x512 .f32) (main_v113 : FVec F S32x512x512 .f32) : IVec S2x1x3x3 1 × IVec S32x512x512 1 × IVec S32x512x512 1 :=
  let main_v114 : FVec F S32x512x512 .f32 := addf main_v108 main_v113
  let main_v115 : FVec F S32x512x512 .f32 := Host.atan2 main_v59 main_v114
  let main_cst_5 : FVec F S_ .f32 := constant S_ .f32 0x40490FDB#32
  let main_v116 : FVec F S32x512x512 .f32 := broadcastInDim S32x512x512 ![] bcast_S_S32x512x512 main_cst_5
  let main_v117 : FVec F S32x512x512 .f32 := Host.divf main_v115 main_v116
  let main_cst_6 : FVec F S_ .f32 := constant S_ .f32 0x41100000#32
  let main_v118 : FVec F S32x512x512 .f32 := broadcastInDim S32x512x512 ![] bcast_S_S32x512x512 main_cst_6
  let main_v119 : FVec F S32x512x512 .f32 := mulf main_v117 main_v118
  let main_v120 : IVec S2x1x3x3 1 := cmpf .oeq main_arg1 main_v0
  let main_v121 : FVec F S32x512x512 .f32 := Host.floor main_v119
  let main_v122 : FVec F S32x512x512 .f32 := subf main_v119 main_v121
  let main_cst_7 : FVec F S_ .f32 := constant S_ .f32 0x35800000#32
  let main_v123 : FVec F S32x512x512 .f32 := broadcastInDim S32x512x512 ![] bcast_S_S32x512x512 main_cst_7
  let main_v124 : IVec S32x512x512 1 := cmpf .oge main_v122 main_v123
  let main_v125 : FVec F S32x512x512 .f32 := Host.ceil main_v119
  let main_v126 : FVec F S32x512x512 .f32 := subf main_v125 main_v119
  let main_cst_8 : FVec F S_ .f32 := constant S_ .f32 0x35800000#32
  let main_v127 : FVec F S32x512x512 .f32 := broadcastInDim S32x512x512 ![] bcast_S_S32x512x512 main_cst_8
  let main_v128 : IVec S32x512x512 1 := cmpf .oge main_v126 main_v127
  (main_v120, main_v124, main_v128)

def fn_part4 {F : FTy → Type} [FloatOps F] (main_arg1 : FVec F S2x1x3x3 .f32) (main_v0 : FVec F S2x1x3x3 .f32) (main_v4 : FVec F S32x514x514 .f32) (main_v59 : FVec F S32x512x512 .f32) (main_v84 : FVec F S32x512x512 .f32) (main_v89 : FVec F S32x512x512 .f32) : IVec S2x1x3x3 1 × IVec S32x512x512 1 × IVec S32x512x512 1 :=
  let main_v90 : FVec F S32x512x512 .f32 := addf main_v84 main_v89
  let main_v91 : FVec F S1x1x1x1 .f32 := (extractStridedSlice S1x1x1x1 ![1, 0, 1, 2] · slices_S2x1x3x3_S1x1x1x1_1_0_1_2) main_arg1
  let main_v92 : FVec F S_ .f32 := shapeCast S_ main_v91 shapeCasts_S1x1x1x1_S_
  let main_v93 : FVec F S32x512x512 .f32 := (extractStridedSlice S32x512x512 ![0, 1, 2] · slices_S32x514x514_S32x512x512_0_1_2) main_v4
  let main_v94 : FVec F S32x512x512 .f32 := broadcastInDim S32x512x512 ![] bcast_S_S32x512x512 main_v92
  let main_v95 : FVec F S32x512x512 .f32 := mulf main_v94 main_v93
  let main_v96 : FVec F S32x512x512 .f32 := addf main_v90 main_v95
  let main_v97 : FVec F S1x1x1x1 .f32 := (extractStridedSlice S1x1x1x1 ![1, 0, 2, 0] · slices_S2x1x3x3_S1x1x1x1_1_0_2_0) main_arg1
  let main_v98 : FVec F S_ .f32 := shapeCast S_ main_v97 shapeCasts_S1x1x1x1_S_
  let main_v99 : FVec F S32x512x512 .f32 := (extractStridedSlice S32x512x512 ![0, 2, 0] · slices_S32x514x514_S32x512x512_0_2_0) main_v4
  let main_v100 : FVec F S32x512x512 .f32 := broadcastInDim S32x512x512 ![] bcast_S_S32x512x512 main_v98
  let main_v101 : FVec F S32x512x512 .f32 := mulf main_v100 main_v99
  let main_v102 : FVec F S32x512x512 .f32 := addf main_v96 main_v101
  let main_v103 : FVec F S1x1x1x1 .f32 := (extractStridedSlice S1x1x1x1 ![1, 0, 2, 1] · slices_S2x1x3x3_S1x1x1x1_1_0_2_1) main_arg1
  let main_v104 : FVec F S_ .f32 := shapeCast S_ main_v103 shapeCasts_S1x1x1x1_S_
  let main_v105 : FVec F S32x512x512 .f32 := (extractStridedSlice S32x512x512 ![0, 2, 1] · slices_S32x514x514_S32x512x512_0_2_1) main_v4
  let main_v106 : FVec F S32x512x512 .f32 := broadcastInDim S32x512x512 ![] bcast_S_S32x512x512 main_v104
  let main_v107 : FVec F S32x512x512 .f32 := mulf main_v106 main_v105
  let main_v108 : FVec F S32x512x512 .f32 := addf main_v102 main_v107
  let main_v109 : FVec F S1x1x1x1 .f32 := (extractStridedSlice S1x1x1x1 ![1, 0, 2, 2] · slices_S2x1x3x3_S1x1x1x1_1_0_2_2) main_arg1
  let main_v110 : FVec F S_ .f32 := shapeCast S_ main_v109 shapeCasts_S1x1x1x1_S_
  let main_v111 : FVec F S32x512x512 .f32 := (extractStridedSlice S32x512x512 ![0, 2, 2] · slices_S32x514x514_S32x512x512_0_2_2) main_v4
  let main_v112 : FVec F S32x512x512 .f32 := broadcastInDim S32x512x512 ![] bcast_S_S32x512x512 main_v110
  let main_v113 : FVec F S32x512x512 .f32 := mulf main_v112 main_v111
  fn_part5 (F := F) main_arg1 main_v0 main_v59 main_v108 main_v113

def fn_part3 {F : FTy → Type} [FloatOps F] (main_arg1 : FVec F S2x1x3x3 .f32) (main_v0 : FVec F S2x1x3x3 .f32) (main_v4 : FVec F S32x514x514 .f32) (main_v59 : FVec F S32x512x512 .f32) (main_v64 : FVec F S32x512x512 .f32) (main_v65 : FVec F S32x512x512 .f32) : IVec S2x1x3x3 1 × IVec S32x512x512 1 × IVec S32x512x512 1 :=
  let main_v66 : FVec F S32x512x512 .f32 := addf main_v65 main_v64
  let main_v67 : FVec F S1x1x1x1 .f32 := (extractStridedSlice S1x1x1x1 ![1, 0, 0, 1] · slices_S2x1x3x3_S1x1x1x1_1_0_0_1) main_arg1
  let main_v68 : FVec F S_ .f32 := shapeCast S_ main_v67 shapeCasts_S1x1x1x1_S_
  let main_v69 : FVec F S32x512x512 .f32 := (extractStridedSlice S32x512x512 ![0, 0, 1] · slices_S32x514x514_S32x512x512_0_0_1) main_v4
  let main_v70 : FVec F S32x512x512 .f32 := broadcastInDim S32x512x512 ![] bcast_S_S32x512x512 main_v68
  let main_v71 : FVec F S32x512x512 .f32 := mulf main_v70 main_v69
  let main_v72 : FVec F S32x512x512 .f32 := addf main_v66 main_v71
  let main_v73 : FVec F S1x1x1x1 .f32 := (extractStridedSlice S1x1x1x1 ![1, 0, 0, 2] · slices_S2x1x3x3_S1x1x1x1_1_0_0_2) main_arg1
  let main_v74 : FVec F S_ .f32 := shapeCast S_ main_v73 shapeCasts_S1x1x1x1_S_
  let main_v75 : FVec F S32x512x512 .f32 := (extractStridedSlice S32x512x512 ![0, 0, 2] · slices_S32x514x514_S32x512x512_0_0_2) main_v4
  let main_v76 : FVec F S32x512x512 .f32 := broadcastInDim S32x512x512 ![] bcast_S_S32x512x512 main_v74
  let main_v77 : FVec F S32x512x512 .f32 := mulf main_v76 main_v75
  let main_v78 : FVec F S32x512x512 .f32 := addf main_v72 main_v77
  let main_v79 : FVec F S1x1x1x1 .f32 := (extractStridedSlice S1x1x1x1 ![1, 0, 1, 0] · slices_S2x1x3x3_S1x1x1x1_1_0_1_0) main_arg1
  let main_v80 : FVec F S_ .f32 := shapeCast S_ main_v79 shapeCasts_S1x1x1x1_S_
  let main_v81 : FVec F S32x512x512 .f32 := (extractStridedSlice S32x512x512 ![0, 1, 0] · slices_S32x514x514_S32x512x512_0_1_0) main_v4
  let main_v82 : FVec F S32x512x512 .f32 := broadcastInDim S32x512x512 ![] bcast_S_S32x512x512 main_v80
  let main_v83 : FVec F S32x512x512 .f32 := mulf main_v82 main_v81
  let main_v84 : FVec F S32x512x512 .f32 := addf main_v78 main_v83
  let main_v85 : FVec F S1x1x1x1 .f32 := (extractStridedSlice S1x1x1x1 ![1, 0, 1, 1] · slices_S2x1x3x3_S1x1x1x1_1_0_1_1) main_arg1
  let main_v86 : FVec F S_ .f32 := shapeCast S_ main_v85 shapeCasts_S1x1x1x1_S_
  let main_v87 : FVec F S32x512x512 .f32 := (extractStridedSlice S32x512x512 ![0, 1, 1] · slices_S32x514x514_S32x512x512_0_1_1) main_v4
  let main_v88 : FVec F S32x512x512 .f32 := broadcastInDim S32x512x512 ![] bcast_S_S32x512x512 main_v86
  let main_v89 : FVec F S32x512x512 .f32 := mulf main_v88 main_v87
  fn_part4 (F := F) main_arg1 main_v0 main_v4 main_v59 main_v84 main_v89

def fn_part2 {F : FTy → Type} [FloatOps F] (main_arg1 : FVec F S2x1x3x3 .f32) (main_v0 : FVec F S2x1x3x3 .f32) (main_v4 : FVec F S32x514x514 .f32) (main_v41 : FVec F S32x512x512 .f32) (main_v42 : FVec F S1x1x1x1 .f32) : IVec S2x1x3x3 1 × IVec S32x512x512 1 × IVec S32x512x512 1 :=
  let main_v43 : FVec F S_ .f32 := shapeCast S_ main_v42 shapeCasts_S1x1x1x1_S_
  let main_v44 : FVec F S32x512x512 .f32 := (extractStridedSlice S32x512x512 ![0, 2, 0] · slices_S32x514x514_S32x512x512_0_2_0) main_v4
  let main_v45 : FVec F S32x512x512 .f32 := broadcastInDim S32x512x512 ![] bcast_S_S32x512x512 main_v43
  let main_v46 : FVec F S32x512x512 .f32 := mulf main_v45 main_v44
  let main_v47 : FVec F S32x512x512 .f32 := addf main_v41 main_v46
  let main_v48 : FVec F S1x1x1x1 .f32 := (extractStridedSlice S1x1x1x1 ![0, 0, 2, 1] · slices_S2x1x3x3_S1x1x1x1_0_0_2_1) main_arg1
  let main_v49 : FVec F S_ .f32 := shapeCast S_ main_v48 shapeCasts_S1x1x1x1_S_
  let main_v50 : FVec F S32x512x512 .f32 := (extractStridedSlice S32x512x512 ![0, 2, 1] · slices_S32x514x514_S32x512x512_0_2_1) main_v4
  let main_v51 : FVec F S32x512x512 .f32 := broadcastInDim S32x512x512 ![] bcast_S_S32x512x512 main_v49
  let main_v52 : FVec F S32x512x512 .f32 := mulf main_v51 main_v50
  let main_v53 : FVec F S32x512x512 .f32 := addf main_v47 main_v52
  let main_v54 : FVec F S1x1x1x1 .f32 := (extractStridedSlice S1x1x1x1 ![0, 0, 2, 2] · slices_S2x1x3x3_S1x1x1x1_0_0_2_2) main_arg1
  let main_v55 : FVec F S_ .f32 := shapeCast S_ main_v54 shapeCasts_S1x1x1x1_S_
  let main_v56 : FVec F S32x512x512 .f32 := (extractStridedSlice S32x512x512 ![0, 2, 2] · slices_S32x514x514_S32x512x512_0_2_2) main_v4
  let main_v57 : FVec F S32x512x512 .f32 := broadcastInDim S32x512x512 ![] bcast_S_S32x512x512 main_v55
  let main_v58 : FVec F S32x512x512 .f32 := mulf main_v57 main_v56
  let main_v59 : FVec F S32x512x512 .f32 := addf main_v53 main_v58
  let main_v60 : FVec F S1x1x1x1 .f32 := (extractStridedSlice S1x1x1x1 ![1, 0, 0, 0] · slices_S2x1x3x3_S1x1x1x1_1_0_0_0) main_arg1
  let main_v61 : FVec F S_ .f32 := shapeCast S_ main_v60 shapeCasts_S1x1x1x1_S_
  let main_v62 : FVec F S32x512x512 .f32 := (extractStridedSlice S32x512x512 ![0, 0, 0] · slices_S32x514x514_S32x512x512_0_0_0) main_v4
  let main_v63 : FVec F S32x512x512 .f32 := broadcastInDim S32x512x512 ![] bcast_S_S32x512x512 main_v61
  let main_v64 : FVec F S32x512x512 .f32 := mulf main_v63 main_v62
  let main_cst_4 : FVec F S_ .f32 := constant S_ .f32 0x00000000#32
  let main_v65 : FVec F S32x512x512 .f32 := broadcastInDim S32x512x512 ![] bcast_S_S32x512x512 main_cst_4
  fn_part3 (F := F) main_arg1 main_v0 main_v4 main_v59 main_v64 main_v65

def fn_part1 {F : FTy → Type} [FloatOps F] (main_arg1 : FVec F S2x1x3x3 .f32) (main_v0 : FVec F S2x1x3x3 .f32) (main_v4 : FVec F S32x514x514 .f32) (main_v17 : FVec F S32x512x512 .f32) (main_v18 : FVec F S1x1x1x1 .f32) : IVec S2x1x3x3 1 × IVec S32x512x512 1 × IVec S32x512x512 1 :=
  let main_v19 : FVec F S_ .f32 := shapeCast S_ main_v18 shapeCasts_S1x1x1x1_S_
  let main_v20 : FVec F S32x512x512 .f32 := (extractStridedSlice S32x512x512 ![0, 0, 2] · slices_S32x514x514_S32x512x512_0_0_2) main_v4
  let main_v21 : FVec F S32x512x512 .f32 := broadcastInDim S32x512x512 ![] bcast_S_S32x512x512 main_v19
  let main_v22 : FVec F S32x512x512 .f32 := mulf main_v21 main_v20
  let main_v23 : FVec F S32x512x512 .f32 := addf main_v17 main_v22
  let main_v24 : FVec F S1x1x1x1 .f32 := (extractStridedSlice S1x1x1x1 ![0, 0, 1, 0] · slices_S2x1x3x3_S1x1x1x1_0_0_1_0) main_arg1
  let main_v25 : FVec F S_ .f32 := shapeCast S_ main_v24 shapeCasts_S1x1x1x1_S_
  let main_v26 : FVec F S32x512x512 .f32 := (extractStridedSlice S32x512x512 ![0, 1, 0] · slices_S32x514x514_S32x512x512_0_1_0) main_v4
  let main_v27 : FVec F S32x512x512 .f32 := broadcastInDim S32x512x512 ![] bcast_S_S32x512x512 main_v25
  let main_v28 : FVec F S32x512x512 .f32 := mulf main_v27 main_v26
  let main_v29 : FVec F S32x512x512 .f32 := addf main_v23 main_v28
  let main_v30 : FVec F S1x1x1x1 .f32 := (extractStridedSlice S1x1x1x1 ![0, 0, 1, 1] · slices_S2x1x3x3_S1x1x1x1_0_0_1_1) main_arg1
  let main_v31 : FVec F S_ .f32 := shapeCast S_ main_v30 shapeCasts_S1x1x1x1_S_
  let main_v32 : FVec F S32x512x512 .f32 := (extractStridedSlice S32x512x512 ![0, 1, 1] · slices_S32x514x514_S32x512x512_0_1_1) main_v4
  let main_v33 : FVec F S32x512x512 .f32 := broadcastInDim S32x512x512 ![] bcast_S_S32x512x512 main_v31
  let main_v34 : FVec F S32x512x512 .f32 := mulf main_v33 main_v32
  let main_v35 : FVec F S32x512x512 .f32 := addf main_v29 main_v34
  let main_v36 : FVec F S1x1x1x1 .f32 := (extractStridedSlice S1x1x1x1 ![0, 0, 1, 2] · slices_S2x1x3x3_S1x1x1x1_0_0_1_2) main_arg1
  let main_v37 : FVec F S_ .f32 := shapeCast S_ main_v36 shapeCasts_S1x1x1x1_S_
  let main_v38 : FVec F S32x512x512 .f32 := (extractStridedSlice S32x512x512 ![0, 1, 2] · slices_S32x514x514_S32x512x512_0_1_2) main_v4
  let main_v39 : FVec F S32x512x512 .f32 := broadcastInDim S32x512x512 ![] bcast_S_S32x512x512 main_v37
  let main_v40 : FVec F S32x512x512 .f32 := mulf main_v39 main_v38
  let main_v41 : FVec F S32x512x512 .f32 := addf main_v35 main_v40
  let main_v42 : FVec F S1x1x1x1 .f32 := (extractStridedSlice S1x1x1x1 ![0, 0, 2, 0] · slices_S2x1x3x3_S1x1x1x1_0_0_2_0) main_arg1
  fn_part2 (F := F) main_arg1 main_v0 main_v4 main_v41 main_v42

def fn {F : FTy → Type} [FloatOps F] (main_arg0 : FVec F S32x3x512x512 .f32) (main_arg1 : FVec F S2x1x3x3 .f32) : IVec S2x1x3x3 1 × IVec S32x512x512 1 × IVec S32x512x512 1 :=
  let main_cst : FVec F S2x3x3 .f32 := fun i => FloatOps.ofBits .f32 (lit0 (S2x3x3.rowMajor i))
  let main_v0 : FVec F S2x1x3x3 .f32 := broadcastInDim S2x1x3x3 ![0, 2, 3] bcast_S2x3x3_S2x1x3x3_0_2_3 main_cst
  let main_cst_0 : FVec F S_ .f32 := constant S_ .f32 0x00000000#32
  let main_v1 : FVec F S32x512x512 .f32 := (fun x v => Host.reduceAdd x v reducesTo_S32x3x512x512_S32x512x512_d1 h_S_) main_arg0 main_cst_0
  let main_cst_1 : FVec F S_ .f32 := constant S_ .f32 0x40400000#32
  let main_v2 : FVec F S32x512x512 .f32 := broadcastInDim S32x512x512 ![] bcast_S_S32x512x512 main_cst_1
  let main_v3 : FVec F S32x512x512 .f32 := Host.divf main_v1 main_v2
  let main_cst_2 : FVec F S_ .f32 := constant S_ .f32 0x00000000#32
  let main_v4 : FVec F S32x514x514 .f32 := (fun x v => pad S32x514x514 ![0, 1, 1] ![0, 1, 1] ![0, 0, 0] x v pads_S32x512x512_S32x514x514_000_110_110 h_S_) main_v3 main_cst_2
  let main_v5 : FVec F S1x1x1x1 .f32 := (extractStridedSlice S1x1x1x1 ![0, 0, 0, 0] · slices_S2x1x3x3_S1x1x1x1_0_0_0_0) main_arg1
  let main_v6 : FVec F S_ .f32 := shapeCast S_ main_v5 shapeCasts_S1x1x1x1_S_
  let main_v7 : FVec F S32x512x512 .f32 := (extractStridedSlice S32x512x512 ![0, 0, 0] · slices_S32x514x514_S32x512x512_0_0_0) main_v4
  let main_v8 : FVec F S32x512x512 .f32 := broadcastInDim S32x512x512 ![] bcast_S_S32x512x512 main_v6
  let main_v9 : FVec F S32x512x512 .f32 := mulf main_v8 main_v7
  let main_cst_3 : FVec F S_ .f32 := constant S_ .f32 0x00000000#32
  let main_v10 : FVec F S32x512x512 .f32 := broadcastInDim S32x512x512 ![] bcast_S_S32x512x512 main_cst_3
  let main_v11 : FVec F S32x512x512 .f32 := addf main_v10 main_v9
  let main_v12 : FVec F S1x1x1x1 .f32 := (extractStridedSlice S1x1x1x1 ![0, 0, 0, 1] · slices_S2x1x3x3_S1x1x1x1_0_0_0_1) main_arg1
  let main_v13 : FVec F S_ .f32 := shapeCast S_ main_v12 shapeCasts_S1x1x1x1_S_
  let main_v14 : FVec F S32x512x512 .f32 := (extractStridedSlice S32x512x512 ![0, 0, 1] · slices_S32x514x514_S32x512x512_0_0_1) main_v4
  let main_v15 : FVec F S32x512x512 .f32 := broadcastInDim S32x512x512 ![] bcast_S_S32x512x512 main_v13
  let main_v16 : FVec F S32x512x512 .f32 := mulf main_v15 main_v14
  let main_v17 : FVec F S32x512x512 .f32 := addf main_v11 main_v16
  let main_v18 : FVec F S1x1x1x1 .f32 := (extractStridedSlice S1x1x1x1 ![0, 0, 0, 2] · slices_S2x1x3x3_S1x1x1x1_0_0_0_2) main_arg1
  fn_part1 (F := F) main_arg1 main_v0 main_v4 main_v17 main_v18
-- ==== Kernel.lean ====
abbrev S32x3x512x512 : Shape := ⟨4, ![32, 3, 512, 512]⟩
abbrev S2x1x3x3 : Shape := ⟨4, ![2, 1, 3, 3]⟩
abbrev S32x9x64x64 : Shape := ⟨4, ![32, 9, 64, 64]⟩
abbrev S4x3x512x512 : Shape := ⟨4, ![4, 3, 512, 512]⟩
abbrev S4x9x64x64 : Shape := ⟨4, ![4, 9, 64, 64]⟩
abbrev S4x514x512 : Shape := ⟨3, ![4, 514, 512]⟩
abbrev S1x1x512x512 : Shape := ⟨4, ![1, 1, 512, 512]⟩
abbrev S512x512 : Shape := ⟨2, ![512, 512]⟩
abbrev S1x512 : Shape := ⟨2, ![1, 512]⟩
abbrev S1x1x512 : Shape := ⟨3, ![1, 1, 512]⟩
abbrev S1x512x512 : Shape := ⟨3, ![1, 512, 512]⟩
abbrev S512x64 : Shape := ⟨2, ![512, 64]⟩
abbrev S64x512 : Shape := ⟨2, ![64, 512]⟩
abbrev S64x64 : Shape := ⟨2, ![64, 64]⟩
abbrev S1x1x64x64 : Shape := ⟨4, ![1, 1, 64, 64]⟩

abbrev nBuf : Space → Nat
  | .hbm => 3
  | .vmem => 6
  | .smem => 0
  | _ => 0

abbrev bufTy : (tb : Table) → Fin (tcTables nBuf tb) → BufTy
  | .hbm, ⟨0, _⟩ => ⟨S32x3x512x512, .f32⟩
  | .hbm, ⟨1, _⟩ => ⟨S2x1x3x3, .f32⟩
  | .hbm, ⟨2, _⟩ => ⟨S32x9x64x64, .f32⟩
  | .local _ .vmem, ⟨0, _⟩ => ⟨S4x3x512x512, .f32⟩
  | .local _ .vmem, ⟨1, _⟩ => ⟨S4x3x512x512, .f32⟩
  | .local _ .vmem, ⟨2, _⟩ => ⟨S4x9x64x64, .f32⟩
  | .local _ .vmem, ⟨3, _⟩ => ⟨S4x9x64x64, .f32⟩
  | .local _ .vmem, ⟨4, _⟩ => ⟨S4x514x512, .f32⟩
  | .local _ .vmem, ⟨5, _⟩ => ⟨S4x514x512, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x9x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "third" => some ((1 / 3 : ℝ) : EReal)
  | _ => none
-- ==== ReferenceIdeal.lean ====
abbrev S32x3x512x512 : Shape := ⟨4, ![32, 3, 512, 512]⟩
abbrev S2x1x3x3 : Shape := ⟨4, ![2, 1, 3, 3]⟩
abbrev S_ : Shape := ⟨0, ![]⟩
abbrev S32x512x512 : Shape := ⟨3, ![32, 512, 512]⟩
abbrev S32x514x514 : Shape := ⟨3, ![32, 514, 514]⟩
abbrev S1x1x1x1 : Shape := ⟨4, ![1, 1, 1, 1]⟩
abbrev S32x1x512x512 : Shape := ⟨4, ![32, 1, 512, 512]⟩
abbrev S1x9x1x1 : Shape := ⟨4, ![1, 9, 1, 1]⟩
abbrev S32x9x512x512 : Shape := ⟨4, ![32, 9, 512, 512]⟩
abbrev S32x9x64x64 : Shape := ⟨4, ![32, 9, 64, 64]⟩

abbrev nBuf : Space → Nat
  | .hbm => 207
  | .vmem => 0
  | .smem => 0
  | _ => 0

abbrev hbmTy0_0 (i : Nat) : BufTy := match i % 128 with
  | 0 => ⟨S32x3x512x512, .f32⟩
  | 1 => ⟨S2x1x3x3, .f32⟩
  | 2 => ⟨S_, .f32⟩
  | 3 => ⟨S32x512x512, .f32⟩
  | 4 => ⟨S_, .f32⟩
  | 5 => ⟨S32x512x512, .f32⟩
  | 6 => ⟨S32x512x512, .f32⟩
  | 7 => ⟨S_, .f32⟩
  | 8 => ⟨S32x514x514, .f32⟩
  | 9 => ⟨S1x1x1x1, .f32⟩
  | 10 => ⟨S_, .f32⟩
  | 11 => ⟨S32x512x512, .f32⟩
  | 12 => ⟨S32x512x512, .f32⟩
  | 13 => ⟨S32x512x512, .f32⟩
  | 14 => ⟨S_, .f32⟩
  | 15 => ⟨S32x512x512, .f32⟩
  | 16 => ⟨S32x512x512, .f32⟩
  | 17 => ⟨S1x1x1x1, .f32⟩
  | 18 => ⟨S_, .f32⟩
  | 19 => ⟨S32x512x512, .f32⟩
  | 20 => ⟨S32x512x512, .f32⟩
  | 21 => ⟨S32x512x512, .f32⟩
  | 22 => ⟨S32x512x512, .f32⟩
  | 23 => ⟨S1x1x1x1, .f32⟩
  | 24 => ⟨S_, .f32⟩
  | 25 => ⟨S32x512x512, .f32⟩
  | 26 => ⟨S32x512x512, .f32⟩
  | 27 => ⟨S32x512x512, .f32⟩
  | 28 => ⟨S32x512x512, .f32⟩
  | 29 => ⟨S1x1x1x1, .f32⟩
  | 30 => ⟨S_, .f32⟩
  | 31 => ⟨S32x512x512, .f32⟩
  | 32 => ⟨S32x512x512, .f32⟩
  | 33 => ⟨S32x512x512, .f32⟩
  | 34 => ⟨S32x512x512, .f32⟩
  | 35 => ⟨S1x1x1x1, .f32⟩
  | 36 => ⟨S_, .f32⟩
  | 37 => ⟨S32x512x512, .f32⟩
  | 38 => ⟨S32x512x512, .f32⟩
  | 39 => ⟨S32x512x512, .f32⟩
  | 40 => ⟨S32x512x512, .f32⟩
  | 41 => ⟨S1x1x1x1, .f32⟩
  | 42 => ⟨S_, .f32⟩
  | 43 => ⟨S32x512x512, .f32⟩
  | 44 => ⟨S32x512x512, .f32⟩
  | 45 => ⟨S32x512x512, .f32⟩
  | 46 => ⟨S32x512x512, .f32⟩
  | 47 => ⟨S1x1x1x1, .f32⟩
  | 48 => ⟨S_, .f32⟩
  | 49 => ⟨S32x512x512, .f32⟩
  | 50 => ⟨S32x512x512, .f32⟩
  | 51 => ⟨S32x512x512, .f32⟩
  | 52 => ⟨S32x512x512, .f32⟩
  | 53 => ⟨S1x1x1x1, .f32⟩
  | 54 => ⟨S_, .f32⟩
  | 55 => ⟨S32x512x512, .f32⟩
  | 56 => ⟨S32x512x512, .f32⟩
  | 57 => ⟨S32x512x512, .f32⟩
  | 58 => ⟨S32x512x512, .f32⟩
  | 59 => ⟨S1x1x1x1, .f32⟩
  | 60 => ⟨S_, .f32⟩
  | 61 => ⟨S32x512x512, .f32⟩
  | 62 => ⟨S32x512x512, .f32⟩
  | 63 => ⟨S32x512x512, .f32⟩
  | 64 => ⟨S32x512x512, .f32⟩
  | 65 => ⟨S1x1x1x1, .f32⟩
  | 66 => ⟨S_, .f32⟩
  | 67 => ⟨S32x512x512, .f32⟩
  | 68 => ⟨S32x512x512, .f32⟩
  | 69 => ⟨S32x512x512, .f32⟩
  | 70 => ⟨S_, .f32⟩
  | 71 => ⟨S32x512x512, .f32⟩
  | 72 => ⟨S32x512x512, .f32⟩
  | 73 => ⟨S1x1x1x1, .f32⟩
  | 74 => ⟨S_, .f32⟩
  | 75 => ⟨S32x512x512, .f32⟩
  | 76 => ⟨S32x512x512, .f32⟩
  | 77 => ⟨S32x512x512, .f32⟩
  | 78 => ⟨S32x512x512, .f32⟩
  | 79 => ⟨S1x1x1x1, .f32⟩
  | 80 => ⟨S_, .f32⟩
  | 81 => ⟨S32x512x512, .f32⟩
  | 82 => ⟨S32x512x512, .f32⟩
  | 83 => ⟨S32x512x512, .f32⟩
  | 84 => ⟨S32x512x512, .f32⟩
  | 85 => ⟨S1x1x1x1, .f32⟩
  | 86 => ⟨S_, .f32⟩
  | 87 => ⟨S32x512x512, .f32⟩
  | 88 => ⟨S32x512x512, .f32⟩
  | 89 => ⟨S32x512x512, .f32⟩
  | 90 => ⟨S32x512x512, .f32⟩
  | 91 => ⟨S1x1x1x1, .f32⟩
  | 92 => ⟨S_, .f32⟩
  | 93 => ⟨S32x512x512, .f32⟩
  | 94 => ⟨S32x512x512, .f32⟩
  | 95 => ⟨S32x512x512, .f32⟩
  | 96 => ⟨S32x512x512, .f32⟩
  | 97 => ⟨S1x1x1x1, .f32⟩
  | 98 => ⟨S_, .f32⟩
  | 99 => ⟨S32x512x512, .f32⟩
  | 100 => ⟨S32x512x512, .f32⟩
  | 101 => ⟨S32x512x512, .f32⟩
  | 102 => ⟨S32x512x512, .f32⟩
  | 103 => ⟨S1x1x1x1, .f32⟩
  | 104 => ⟨S_, .f32⟩
  | 105 => ⟨S32x512x512, .f32⟩
  | 106 => ⟨S32x512x512, .f32⟩
  | 107 => ⟨S32x512x512, .f32⟩
  | 108 => ⟨S32x512x512, .f32⟩
  | 109 => ⟨S1x1x1x1, .f32⟩
  | 110 => ⟨S_, .f32⟩
  | 111 => ⟨S32x512x512, .f32⟩
  | 112 => ⟨S32x512x512, .f32⟩
  | 113 => ⟨S32x512x512, .f32⟩
  | 114 => ⟨S32x512x512, .f32⟩
  | 115 => ⟨S1x1x1x1, .f32⟩
  | 116 => ⟨S_, .f32⟩
  | 117 => ⟨S32x512x512, .f32⟩
  | 118 => ⟨S32x512x512, .f32⟩
  | 119 => ⟨S32x512x512, .f32⟩
  | 120 => ⟨S32x512x512, .f32⟩
  | 121 => ⟨S32x512x512, .f32⟩
  | 122 => ⟨S32x512x512, .f32⟩
  | 123 => ⟨S32x512x512, .f32⟩
  | 124 => ⟨S32x512x512, .f32⟩
  | 125 => ⟨S32x1x512x512, .f32⟩
  | 126 => ⟨S32x512x512, .f32⟩
  | 127 => ⟨S_, .f32⟩
  | _ => ⟨S32x3x512x512, .f32⟩

abbrev hbmTy0_1 (i : Nat) : BufTy := match i % 128 with
  | 0 => ⟨S32x512x512, .f32⟩
  | 1 => ⟨S32x512x512, .f32⟩
  | 2 => ⟨S_, .f32⟩
  | 3 => ⟨S32x512x512, .f32⟩
  | 4 => ⟨S32x512x512, .f32⟩
  | 5 => ⟨S32x512x512, .f32⟩
  | 6 => ⟨S32x512x512, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S32x512x512, .i32⟩
  | 14 => ⟨S32x512x512, .i32⟩
  | 15 => ⟨S_, .i32⟩
  | 16 => ⟨S32x512x512, .i32⟩
  | 17 => ⟨S32x512x512, .i1⟩
  | 18 => ⟨S_, .i32⟩
  | 19 => ⟨S32x512x512, .i32⟩
  | 20 => ⟨S32x512x512, .i1⟩
  | 21 => ⟨S_, .i32⟩
  | 22 => ⟨S_, .i1⟩
  | 23 => ⟨S32x512x512, .i1⟩
  | 24 => ⟨S32x512x512, .i1⟩
  | 25 => ⟨S32x512x512, .i1⟩
  | 26 => ⟨S32x512x512, .i32⟩
  | 27 => ⟨S32x512x512, .i32⟩
  | 28 => ⟨S32x512x512, .i32⟩
  | 29 => ⟨S32x512x512, .f32⟩
  | 30 => ⟨S32x512x512, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S32x512x512, .i32⟩
  | 38 => ⟨S32x512x512, .i32⟩
  | 39 => ⟨S_, .i32⟩
  | 40 => ⟨S32x512x512, .i32⟩
  | 41 => ⟨S32x512x512, .i1⟩
  | 42 => ⟨S_, .i32⟩
  | 43 => ⟨S32x512x512, .i32⟩
  | 44 => ⟨S32x512x512, .i1⟩
  | 45 => ⟨S_, .i32⟩
  | 46 => ⟨S_, .i1⟩
  | 47 => ⟨S32x512x512, .i1⟩
  | 48 => ⟨S32x512x512, .i1⟩
  | 49 => ⟨S32x512x512, .i1⟩
  | 50 => ⟨S32x512x512, .i32⟩
  | 51 => ⟨S32x512x512, .i32⟩
  | 52 => ⟨S32x512x512, .i32⟩
  | 53 => ⟨S32x1x512x512, .i32⟩
  | 54 => ⟨S1x9x1x1, .i32⟩
  | 55 => ⟨S32x9x512x512, .i32⟩
  | 56 => ⟨S32x9x512x512, .i32⟩
  | 57 => ⟨S32x9x512x512, .i1⟩
  | 58 => ⟨S32x9x512x512, .f32⟩
  | 59 => ⟨S32x1x512x512, .i32⟩
  | 60 => ⟨S1x9x1x1, .i32⟩
  | 61 => ⟨S32x9x512x512, .i32⟩
  | 62 => ⟨S32x9x512x512, .i32⟩
  | 63 => ⟨S32x9x512x512, .i1⟩
  | 64 => ⟨S32x9x512x512, .f32⟩
  | 65 => ⟨S32x9x512x512, .f32⟩
  | 66 => ⟨S32x9x512x512, .f32⟩
  | 67 => ⟨S_, .f32⟩
  | 68 => ⟨S32x1x512x512, .f32⟩
  | 69 => ⟨S32x1x512x512, .f32⟩
  | 70 => ⟨S32x9x512x512, .f32⟩
  | 71 => ⟨S32x9x512x512, .f32⟩
  | 72 => ⟨S32x9x512x512, .f32⟩
  | 73 => ⟨S_, .f32⟩
  | 74 => ⟨S_, .f32⟩
  | 75 => ⟨S32x9x64x64, .f32⟩
  | 76 => ⟨S_, .f32⟩
  | 77 => ⟨S32x9x64x64, .f32⟩
  | 78 => ⟨S32x9x64x64, .f32⟩
  | _ => ⟨S32x3x512x512, .f32⟩

abbrev hbmTy (i : Nat) : BufTy := match i / 128 with
  | 0 => hbmTy0_0 i
  | 1 => hbmTy0_1 i
  | _ => ⟨S32x3x512x512, .f32⟩

abbrev bufTy : (tb : Table) → Fin (tcTables nBuf tb) → BufTy
  | .hbm, ⟨i, _⟩ => hbmTy i
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_cst_3 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_cst_4 : Ref sig .tc := ⟨.hbm, 127, rfl⟩
abbrev main_v120 : Ref sig .tc := ⟨.hbm, 128, rfl⟩
abbrev main_v121 : Ref sig .tc := ⟨.hbm, 129, rfl⟩
abbrev main_cst_5 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_c : Ref sig .tc := ⟨.hbm, 135, rfl⟩
abbrev main_call0_v0 : Ref sig .tc := ⟨.hbm, 136, rfl⟩
abbrev main_call0_c : Ref sig .tc := ⟨.hbm, 137, rfl⟩
abbrev main_call0_v1 : Ref sig .tc := ⟨.hbm, 138, rfl⟩
abbrev main_call0_c_0 : Ref sig .tc := ⟨.hbm, 139, rfl⟩
abbrev main_call0_v2 : Ref sig .tc := ⟨.hbm, 140, rfl⟩
abbrev main_call0_v3 : Ref sig .tc := ⟨.hbm, 141, rfl⟩
abbrev main_call0_v4 : Ref sig .tc := ⟨.hbm, 142, rfl⟩
abbrev main_call0_c_1 : Ref sig .tc := ⟨.hbm, 143, rfl⟩
abbrev main_call0_v5 : Ref sig .tc := ⟨.hbm, 144, rfl⟩
abbrev main_call0_v6 : Ref sig .tc := ⟨.hbm, 145, rfl⟩
abbrev main_call0_c_2 : Ref sig .tc := ⟨.hbm, 146, rfl⟩
abbrev main_call0_v7 : Ref sig .tc := ⟨.hbm, 147, rfl⟩
abbrev main_call0_v8 : Ref sig .tc := ⟨.hbm, 148, rfl⟩
abbrev main_call0_c_3 : Ref sig .tc := ⟨.hbm, 149, rfl⟩
abbrev main_call0_v9 : Ref sig .tc := ⟨.hbm, 150, rfl⟩
abbrev main_call0_v10 : Ref sig .tc := ⟨.hbm, 151, rfl⟩
abbrev main_call0_v11 : Ref sig .tc := ⟨.hbm, 152, rfl⟩
abbrev main_call0_v12 : Ref sig .tc := ⟨.hbm, 153, rfl⟩
abbrev main_call0_v13 : Ref sig .tc := ⟨.hbm, 154, rfl⟩
abbrev main_call0_v14 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_c_6 : Ref sig .tc := ⟨.hbm, 159, rfl⟩
abbrev main_call1_v0 : Ref sig .tc := ⟨.hbm, 160, rfl⟩
abbrev main_call1_c : Ref sig .tc := ⟨.hbm, 161, rfl⟩
abbrev main_call1_v1 : Ref sig .tc := ⟨.hbm, 162, rfl⟩
abbrev main_call1_c_0 : Ref sig .tc := ⟨.hbm, 163, rfl⟩
abbrev main_call1_v2 : Ref sig .tc := ⟨.hbm, 164, rfl⟩
abbrev main_call1_v3 : Ref sig .tc := ⟨.hbm, 165, rfl⟩
abbrev main_call1_v4 : Ref sig .tc := ⟨.hbm, 166, rfl⟩
abbrev main_call1_c_1 : Ref sig .tc := ⟨.hbm, 167, rfl⟩
abbrev main_call1_v5 : Ref sig .tc := ⟨.hbm, 168, rfl⟩
abbrev main_call1_v6 : Ref sig .tc := ⟨.hbm, 169, rfl⟩
abbrev main_call1_c_2 : Ref sig .tc := ⟨.hbm, 170, rfl⟩
abbrev main_call1_v7 : Ref sig .tc := ⟨.hbm, 171, rfl⟩
abbrev main_call1_v8 : Ref sig .tc := ⟨.hbm, 172, rfl⟩
abbrev main_call1_c_3 : Ref sig .tc := ⟨.hbm, 173, rfl⟩
abbrev main_call1_v9 : Ref sig .tc := ⟨.hbm, 174, rfl⟩
abbrev main_call1_v10 : Ref sig .tc := ⟨.hbm, 175, rfl⟩
abbrev main_call1_v11 : Ref sig .tc := ⟨.hbm, 176, rfl⟩
abbrev main_call1_v12 : Ref sig .tc := ⟨.hbm, 177, rfl⟩
abbrev main_call1_v13 : Ref sig .tc := ⟨.hbm, 178, rfl⟩
abbrev main_call1_v14 : Ref sig .tc := ⟨.hbm, 179, rfl⟩
abbrev main_v129 : Ref sig .tc := ⟨.hbm, 180, rfl⟩
abbrev main_call2_v0 : Ref sig .tc := ⟨.hbm, 181, rfl⟩
abbrev main_call2_v1 : Ref sig .tc := ⟨.hbm, 182, rfl⟩
abbrev main_call2_v2 : Ref sig .tc := ⟨.hbm, 183, rfl⟩
abbrev main_call2_v3 : Ref sig .tc := ⟨.hbm, 184, rfl⟩
abbrev main_call2_v4 : Ref sig .tc := ⟨.hbm, 185, rfl⟩
abbrev main_v130 : Ref sig .tc := ⟨.hbm, 186, rfl⟩
abbrev main_call3_v0 : Ref sig .tc := ⟨.hbm, 187, rfl⟩
abbrev main_call3_v1 : Ref sig .tc := ⟨.hbm, 188, rfl⟩
abbrev main_call3_v2 : Ref sig .tc := ⟨.hbm, 189, rfl⟩
abbrev main_call3_v3 : Ref sig .tc := ⟨.hbm, 190, rfl⟩
abbrev main_call3_v4 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_cst_7 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_cst_8 : Ref sig .tc := ⟨.hbm, 201, rfl⟩
abbrev main_v139 : Ref sig .tc := ⟨.hbm, 202, rfl⟩
abbrev main_v140 : Ref sig .tc := ⟨.hbm, 203, rfl⟩
abbrev main_cst_9 : Ref sig .tc := ⟨.hbm, 204, rfl⟩
abbrev main_v141 : Ref sig .tc := ⟨.hbm, 205, rfl⟩
abbrev main_v142 : Ref sig .tc := ⟨.hbm, 206, rfl⟩

abbrev nD : Nat := 1
abbrev τ : Topo := Topo.v7x

variable {F : FTy → Type} [FloatOps F]
-- ==== Proof.Pieces.lean ====
module

public import proofs.«01_k».proof.Proof.Gen.KernelIdeal.Value

@[expose] public section

set_option maxRecDepth 16384

noncomputable section

namespace Cert.Hog

open Cert.KernelIdeal Cert.KernelIdeal.Gen Idealize.ShloMosaic Idealize.ShloMosaic.TcCoe Idealize.SL.Sem
open Idealize.ShloMosaic.Tactic

variable {F : FTy → Type} [FloatOps F] [Named F]

/-- A channel's load lies in the block. -/
theorem inb_chan (im : Fin 4) (ch : Fin 3) (a : Fin 4) :
    (![im.val, ch.val, 0, 0] : Fin 4 → ℕ) a + S1x1x512x512.size a ≤ S4x3x512x512.size a := by
  revert im ch a; decide

/-- Three rows' offsets of a load lie in the scratch. -/
theorem inb_rows (im : Fin 4) (r : Fin 3) (a : Fin 3) :
    (![im.val, r.val, 0] : Fin 3 → ℕ) a + S1x512x512.size a ≤ S4x514x512.size a := by
  revert im r a; decide

/-- The frame's first row lies in the scratch. -/
theorem inb_top (im : Fin 4) (a : Fin 3) :
    (![im.val, 0, 0] : Fin 3 → ℕ) a + S1x1x512.size a ≤ S4x514x512.size a := by
  revert im a; decide

/-- The frame's last row lies in the scratch. -/
theorem inb_end (im : Fin 4) (a : Fin 3) :
    (![im.val, 513, 0] : Fin 3 → ℕ) a + S1x1x512.size a ≤ S4x514x512.size a := by
  revert im a; decide

/-- A bin's store lies in the block. -/
theorem inb_bin (im : Fin 4) (b : Fin 9) (a : Fin 4) :
    (![im.val, b.val, 0, 0] : Fin 4 → ℕ) a + S1x1x64x64.size a ≤ S4x9x64x64.size a := by
  revert im b a; decide

section Block

variable (arg1 : Memref sig .tc .vmem S4x3x512x512 .f32) (harg1 : arg1.IsWhole)
  (arg3 arg4 : Memref sig .tc .vmem S4x514x512 .f32) (x0 : Vec F S4x3x512x512 .f32)

/-- One channel of one image, as the kernel loads it. -/
def chan (im : Fin 4) (ch : Fin 3) : Vec F S1x1x512x512 .f32 :=
  View.readAt (Elt F) arg1.view (Rect.unit (s := S4x3x512x512) ![im.val, ch.val, 0, 0] S1x1x512x512.size (inb_chan im ch)).toLoadRect (harg1.unread x0)

/-- The grey image: the channels' sum times one third. -/
def gray (im : Fin 4) : FVec F S512x512 .f32 :=
  k0_pay1 (chan arg1 harg1 x0 im 0) (chan arg1 harg1 x0 im 1) (chan arg1 harg1 x0 im 2)

/-- The horizontal smoothing of an image, as it is stored in the second scratch. -/
def smooth (s : FVec F S512x512 .f32) : FVec F S1x512x512 .f32 :=
  k0_pay11 s k0_pay2 k0_pay3 (dynamicRotate 1 1#32 none s rotates_S512x512_d1) (k0_pay9 (F := F))

/-- The three stores that put an image between two zero rows of a scratch, last first. -/
def framed (im : Fin 4) (w : FVec F S1x512x512 .f32) : List (View.Piece (Elt F) S4x514x512 .f32) :=
  [⟨Rect.unit ![im.val, 513, 0] S1x1x512.size (inb_end im), k0_pay5 (F := F)⟩,
    ⟨Rect.unit ![im.val, 1, 0] S1x512x512.size (inb_rows im 1), w⟩,
    ⟨Rect.unit ![im.val, 0, 0] S1x1x512.size (inb_top im), k0_pay5 (F := F)⟩]

/-- The images stored in a scratch by the time image `im` is read, last first. -/
def upTo : Fin 4 → List (Fin 4) := ![[0], [1, 0], [2, 1, 0], [3, 2, 1, 0]]

/-- The first scratch by the time image `im` is read: the greys. -/
def greys (im : Fin 4) : List (View.Piece (Elt F) S4x514x512 .f32) :=
  (upTo im).flatMap fun k => framed k (shapeCast S1x512x512 (gray arg1 harg1 x0 k) shapeCasts_S512x512_S1x512x512)
/-- The second scratch by then: the row sums. -/
def smooths (im : Fin 4) : List (View.Piece (Elt F) S4x514x512 .f32) :=
  (upTo im).flatMap fun k => framed k (smooth (gray arg1 harg1 x0 k))

/-- Image `im` of a scratch, from row `r` on. -/
def rows (v : View sig .tc .vmem S4x514x512 .f32) (L : List (View.Piece (Elt F) S4x514x512 .f32)) (im : Fin 4) (r : Fin 3) :
    Vec F S1x512x512 .f32 :=
  v.readCov L (Rect.unit (s := S4x514x512) ![im.val, r.val, 0] S1x512x512.size (inb_rows im r)).toLoadRect

/-- The image's horizontal gradient. -/
def gradX (im : Fin 4) : FVec F S512x512 .f32 :=
  k0_pay13 (gray arg1 harg1 x0 im) k0_pay2 k0_pay3 (rows arg3.view (greys arg1 harg1 x0 im) im 0)
    (rows arg3.view (greys arg1 harg1 x0 im) im 2)

end Block

/-- The bin of each element, as a float: how many of the eight thresholds its quotient does not exceed. -/
def binOf (gx : FVec F S512x512 .f32) (u d : Vec F S1x512x512 .f32) : FVec F S512x512 .f32 :=
  k0_pay20 (k0_pay17 gx u d) (k0_pay18 gx u d) (k0_pay19 gx u d)

/-- One bin of one image: the magnitude where the element's bin is this one, one less the magnitude where it is the bin
    before, zero elsewhere; then the mean over each eight by eight block, as two matrix products. -/
def pooled (w w' : BitVec 16) (gx : FVec F S512x512 .f32) (u d : Vec F S1x512x512 .f32) : FVec F S1x1x64x64 .f32 :=
  shapeCast S1x1x64x64
    (matmul dot_S64x512_S512x64_S64x64_1_0_0_1_n_n none
      (matmul dot_S64x512_S512x512_S64x512_1_0_0_1_n_n none
        (k0_pay24 (F := F) (iota .tc S64x512 32 [0] iota_S64x512_d0_w32) (iota .tc S64x512 32 [1] iota_S64x512_d1_w32) 8#32 k0_pay22 k0_pay23)
        (select (cmpf .oeq (truncf .bf16 (binOf gx u d) bitsLt_bf16_f32) (broadcast S512x512 (Scalar.ofBits .bf16 w)))
          (truncf .bf16 (k0_pay15 gx u d) bitsLt_bf16_f32)
          (select (cmpf .oeq (truncf .bf16 (binOf gx u d) bitsLt_bf16_f32) (broadcast S512x512 (Scalar.ofBits .bf16 w')))
            (truncf .bf16 (k0_pay16 gx u d) bitsLt_bf16_f32) (k0_pay28 (F := F))))
        (constant S64x512 .f32 0x00000000#32))
      (k0_pay21 (F := F)) (constant S64x64 .f32 0x00000000#32))
    shapeCasts_S64x64_S1x1x64x64

/-- The bins' numbers as the kernel's sixteen-bit literals. -/
def word : Fin 9 → BitVec 16 :=
  ![0x0000#16, 0x3F80#16, 0x4000#16, 0x4040#16, 0x4080#16, 0x40A0#16, 0x40C0#16, 0x40E0#16, 0x4100#16]

/-- The stores of a block in their order, last first: image by image, bin by bin. -/
def order : List (Fin 4 × Fin 9) :=
  [3, 2, 1, 0].flatMap fun im => [8, 7, 6, 5, 4, 3, 2, 1, 0].map fun b => (im, b)

/-- One of them. -/
def piece (arg1 : Memref sig .tc .vmem S4x3x512x512 .f32) (harg1 : arg1.IsWhole)
    (arg3 arg4 : Memref sig .tc .vmem S4x514x512 .f32) (x0 : Vec F S4x3x512x512 .f32) (p : Fin 4 × Fin 9) :
    View.Piece (Elt F) S4x9x64x64 .f32 :=
  ⟨Rect.unit ![p.1.val, p.2.val, 0, 0] S1x1x64x64.size (inb_bin p.1 p.2),
    pooled (word p.2) (word (p.2 + 8)) (gradX arg1 harg1 arg3 x0 p.1) (rows arg4.view (smooths arg1 harg1 x0 p.1) p.1 0)
      (rows arg4.view (smooths arg1 harg1 x0 p.1) p.1 2)⟩

/-- The kernel's stores are these: one computation, whatever the image and the bin. -/
theorem stores (c : Dev nD) (i : grid0.Coords) (arg1 : Memref sig .tc .vmem S4x3x512x512 .f32) (harg1 : arg1.IsWhole)
    (arg2 : Memref sig .tc .vmem S4x9x64x64 .f32) (harg2 : arg2.IsWhole) (arg3 : Memref sig .tc .vmem S4x514x512 .f32)
    (harg3 : arg3.IsWhole) (arg4 : Memref sig .tc .vmem S4x514x512 .f32) (harg4 : arg4.IsWhole) (x0 : Vec F S4x3x512x512 .f32) :
    (kernelRun0_A c i arg1 harg1 arg2 harg2 arg3 harg3 arg4 harg4 x0).1 = order.map (piece arg1 harg1 arg3 arg4 x0) := by
  sl_kernel_rfl

end Cert.Hog

end
-- ==== Proof.Angle.lean ====
module
public import Mathlib.Analysis.Complex.Trigonometric
public import Mathlib.Analysis.SpecialFunctions.Trigonometric.Arctan
public import Idealize.ShloMosaic.PureOps.Ideal

@[expose] public section

noncomputable section

namespace Cert.Hog

open Real

/-- The cotangent as the quotient the kernel compares: cosine over sine. -/
def ct (x : ℝ) : ℝ := cos x / sin x

/-- On the open half circle the cotangent drops from one angle to a later one by at least the sine of their distance. -/
theorem ct_sub_ge (x y : ℝ) (hx : 0 < x) (hxy : x ≤ y) (hy : y < π) : sin (y - x) ≤ ct x - ct y := by
  have sx : 0 < sin x := sin_pos_of_pos_of_lt_pi hx (by linarith)
  have sy : 0 < sin y := sin_pos_of_pos_of_lt_pi (by linarith) hy
  have e : ct x - ct y = sin (y - x) / (sin x * sin y) := by
    rw [ct, ct, sin_sub]; field_simp
  rw [e, le_div_iff₀ (mul_pos sx sy)]
  have h0 : 0 ≤ sin (y - x) := sin_nonneg_of_nonneg_of_le_pi (by linarith) (by linarith)
  have h1 : sin x * sin y ≤ 1 := by nlinarith [sin_le_one x, sin_le_one y]
  nlinarith

/-- The cotangent falls on the open half circle. -/
theorem ct_anti (x y : ℝ) (hx : 0 < x) (hxy : x ≤ y) (hy : y < π) : ct y ≤ ct x := by
  have h := ct_sub_ge x y hx hxy hy
  have h0 : 0 ≤ sin (y - x) := sin_nonneg_of_nonneg_of_le_pi (by linarith) (by linarith)
  linarith

/-- The sine near zero, by the first terms of its series. -/
theorem sin_series (x : ℝ) (h0 : 0 ≤ x) (h1 : x ≤ 1) :
    |sin x - (x - x ^ 3 / 6 + x ^ 5 / 120 - x ^ 7 / 5040 + x ^ 9 / 362880)| ≤ x ^ 10 * (11 / 36288000) := by
  have hn : ‖(x : ℂ) * Complex.I‖ = x := by simp [abs_of_nonneg h0]
  have hb := Complex.exp_bound (x := (x : ℂ) * Complex.I) (by rw [hn]; exact h1) (n := 10) (by norm_num)
  rw [hn] at hb
  have him := (Complex.abs_im_le_norm _).trans hb
  rw [Complex.sub_im, Complex.exp_ofReal_mul_I_im] at him
  have hs : (∑ m ∈ Finset.range 10, ((x : ℂ) * Complex.I) ^ m / (m.factorial : ℂ))
      = ((1 - x ^ 2 / 2 + x ^ 4 / 24 - x ^ 6 / 720 + x ^ 8 / 40320 : ℝ) : ℂ)
        + ((x - x ^ 3 / 6 + x ^ 5 / 120 - x ^ 7 / 5040 + x ^ 9 / 362880 : ℝ) : ℂ) * Complex.I := by
    have i2 : Complex.I ^ 2 = -1 := Complex.I_sq
    have i3 : Complex.I ^ 3 = -Complex.I := by rw [pow_succ, i2]; ring
    have i4 : Complex.I ^ 4 = 1 := by rw [pow_succ, i3, neg_mul, Complex.I_mul_I]; ring
    have i5 : Complex.I ^ 5 = Complex.I := by rw [pow_succ, i4]; ring
    have i6 : Complex.I ^ 6 = -1 := by rw [pow_succ, i5, Complex.I_mul_I]
    have i7 : Complex.I ^ 7 = -Complex.I := by rw [pow_succ, i6]; ring
    have i8 : Complex.I ^ 8 = 1 := by rw [pow_succ, i7, neg_mul, Complex.I_mul_I]; ring
    have i9 : Complex.I ^ 9 = Complex.I := by rw [pow_succ, i8]; ring
    simp only [Finset.sum_range_succ, Finset.sum_range_zero, mul_pow, i2, i3, i4, i5, i6, i7, i8, i9, pow_zero, pow_one,
      Nat.factorial]
    push_cast
    ring
  rw [hs, Complex.add_im, Complex.ofReal_im, Complex.im_ofReal_mul, Complex.I_im] at him
  norm_num [Nat.factorial] at him ⊢
  exact him

/-- The circle's number to eight decimals, from the sine of thirty degrees. -/
theorem pi_close : 3.14159265 < π ∧ π < 3.14159266 := by
  have hp := pi_pos
  have h4 := pi_le_four
  have h6 : sin (π / 6) = 1 / 2 := sin_pi_div_six
  constructor
  · by_contra h
    push Not at h
    have hm : sin (π / 6) ≤ sin (3.14159265 / 6) :=
      sin_le_sin_of_le_of_le_pi_div_two (by linarith) (by linarith [two_le_pi]) (by linarith)
    have hs := abs_le.1 (sin_series (3.14159265 / 6) (by norm_num) (by norm_num))
    rw [h6] at hm
    norm_num at hs hm
    linarith [hs.2]
  · by_contra h
    push Not at h
    have hm : sin (3.14159266 / 6) ≤ sin (π / 6) :=
      sin_le_sin_of_le_of_le_pi_div_two (by linarith) (by linarith) (by linarith)
    have hs := abs_le.1 (sin_series (3.14159266 / 6) (by norm_num) (by norm_num))
    rw [h6] at hm
    norm_num at hs hm
    linarith [hs.1]

/-- A step of `23e-8` in the angle costs more than `22e-8` in the cotangent. -/
theorem ct_step (x y : ℝ) (hx : 0 < x) (hxy : x + 23e-8 ≤ y) (hy : y < π) : ct y + 22e-8 < ct x := by
  have h := ct_sub_ge x (x + 23e-8) hx (by norm_num) (by linarith)
  have h' := ct_anti (x + 23e-8) y (by linarith) hxy hy
  have hs := (abs_le.1 (sin_series 23e-8 (by norm_num) (by norm_num))).1
  rw [add_sub_cancel_left] at h
  norm_num at hs h h' ⊢
  linarith

/-- Twenty degrees' cosine, from the triple angle: the root above one half of `8 x ^ 3 - 6 x - 1`. -/
theorem cos_ninth : 0.93969262078 < cos (π / 9) ∧ cos (π / 9) < 0.93969262079 := by
  have h3 : cos (3 * (π / 9)) = 1 / 2 := by rw [show 3 * (π / 9) = π / 3 by ring, cos_pi_div_three]
  rw [cos_three_mul] at h3
  have hh : 1 / 2 ≤ cos (π / 9) := by
    rw [← cos_pi_div_three]
    exact cos_le_cos_of_nonneg_of_le_pi (by positivity) (by linarith [pi_pos]) (by linarith [pi_pos])
  have h1 := cos_le_one (π / 9)
  set c := cos (π / 9)
  constructor
  · by_contra hc
    push Not at hc
    nlinarith [mul_nonneg (sub_nonneg.2 hc) (sub_nonneg.2 hh), mul_nonneg (mul_nonneg (sub_nonneg.2 hc) (sub_nonneg.2 hh)) (sub_nonneg.2 hh)]
  · by_contra hc
    push Not at hc
    nlinarith [mul_nonneg (sub_nonneg.2 hc) (sub_nonneg.2 hh), mul_nonneg (mul_nonneg (sub_nonneg.2 hc) (sub_nonneg.2 hh)) (sub_nonneg.2 hh)]

/-- A positive cotangent lies between two rationals when the squares of the cosine say so. -/
theorem ct_between (x a b : ℝ) (hx : 0 < x) (hx' : x < π / 2) (ha : 0 ≤ a) (hb : 0 ≤ b)
    (h₁ : a ^ 2 * (1 - cos x ^ 2) ≤ cos x ^ 2) (h₂ : cos x ^ 2 ≤ b ^ 2 * (1 - cos x ^ 2)) : a ≤ ct x ∧ ct x ≤ b := by
  have sx : 0 < sin x := sin_pos_of_pos_of_lt_pi hx (by linarith [pi_pos])
  have cx : 0 < cos x := cos_pos_of_mem_Ioo ⟨by linarith, hx'⟩
  have hs : sin x ^ 2 = 1 - cos x ^ 2 := by linarith [sin_sq_add_cos_sq x]
  rw [← hs] at h₁ h₂
  constructor
  · rw [ct, le_div_iff₀ sx]
    exact abs_le_of_sq_le_sq' (by rw [mul_pow]; exact h₁) cx.le |>.2
  · rw [ct, div_le_iff₀ sx]
    exact abs_le_of_sq_le_sq' (by rw [mul_pow]; exact h₂) (by positivity) |>.2

/-- The eight thresholds, the kernel's literals as rationals. -/
def thr : Fin 8 → ℝ :=
  ![2880939 / 1048576, 4998577 / 4194304, 4843165 / 8388608, 11833103 / 67108864,
    -(11833103 / 67108864), -(4843165 / 8388608), -(4998577 / 4194304), -(2880939 / 1048576)]

/-- The cotangent of twenty degrees to eight digits. -/
theorem ct_ninth1 : 2.747477415 ≤ ct (1 * π / 9) ∧ ct (1 * π / 9) ≤ 2.747477425 := by
  obtain ⟨l, u⟩ := cos_ninth
  rw [one_mul]
  apply ct_between _ _ _ (by positivity) (by linarith [pi_pos]) (by norm_num) (by norm_num) <;> nlinarith

/-- Forty degrees' cosine, from the doubled angle. -/
theorem cos_two_ninth : 0.7660444430 < cos (2 * π / 9) ∧ cos (2 * π / 9) < 0.7660444432 := by
  obtain ⟨l, u⟩ := cos_ninth
  rw [show 2 * π / 9 = 2 * (π / 9) by ring, cos_two_mul]
  constructor <;> nlinarith

/-- Eighty degrees' cosine, from the doubled angle. -/
theorem cos_four_ninth : 0.1736481772 < cos (4 * π / 9) ∧ cos (4 * π / 9) < 0.1736481780 := by
  obtain ⟨l, u⟩ := cos_two_ninth
  rw [show 4 * π / 9 = 2 * (2 * π / 9) by ring, cos_two_mul]
  constructor <;> nlinarith

/-- The cotangent of forty degrees. -/
theorem ct_ninth2 : 1.19175359 ≤ ct (2 * π / 9) ∧ ct (2 * π / 9) ≤ 1.1917536 := by
  obtain ⟨l, u⟩ := cos_two_ninth
  apply ct_between _ _ _ (by positivity) (by linarith [pi_pos]) (by norm_num) (by norm_num) <;> nlinarith

/-- The cotangent of sixty degrees. -/
theorem ct_ninth3 : 0.57735026 ≤ ct (3 * π / 9) ∧ ct (3 * π / 9) ≤ 0.57735028 := by
  have e : cos (3 * π / 9) = 1 / 2 := by rw [show 3 * π / 9 = π / 3 by ring, cos_pi_div_three]
  apply ct_between _ _ _ (by positivity) (by linarith [pi_pos]) (by norm_num) (by norm_num) <;> rw [e] <;> norm_num

/-- The cotangent of eighty degrees. -/
theorem ct_ninth4 : 0.17632698 ≤ ct (4 * π / 9) ∧ ct (4 * π / 9) ≤ 0.17632699 := by
  obtain ⟨l, u⟩ := cos_four_ninth
  apply ct_between _ _ _ (by positivity) (by linarith [pi_pos]) (by norm_num) (by norm_num) <;> nlinarith

/-- The cotangent is odd about the quarter turn. -/
theorem ct_pi_sub (x : ℝ) : ct (π - x) = -ct x := by rw [ct, ct, cos_pi_sub, sin_pi_sub, neg_div]

/-- Each threshold is the cotangent of its angle up to `12e-8`. -/
theorem thr_close (k : Fin 8) : |ct (((k : ℕ) + 1 : ℝ) * π / 9) - thr k| ≤ 12e-8 := by
  have e5 : ct (5 * π / 9) = -ct (4 * π / 9) := by rw [← ct_pi_sub]; congr 1; ring
  have e6 : ct (6 * π / 9) = -ct (3 * π / 9) := by rw [← ct_pi_sub]; congr 1; ring
  have e7 : ct (7 * π / 9) = -ct (2 * π / 9) := by rw [← ct_pi_sub]; congr 1; ring
  have e8 : ct (8 * π / 9) = -ct (1 * π / 9) := by rw [← ct_pi_sub]; congr 1; ring
  obtain ⟨l1, u1⟩ := ct_ninth1
  obtain ⟨l2, u2⟩ := ct_ninth2
  obtain ⟨l3, u3⟩ := ct_ninth3
  obtain ⟨l4, u4⟩ := ct_ninth4
  rw [abs_le]
  fin_cases k <;> norm_num [thr] at * <;> (try simp only [e5, e6, e7, e8]) <;> constructor <;> linarith

/-- The angle of the point `(x, y)` by quadrant, as the ideal `atan2` gives it on finite operands. -/
def ang (y x : ℝ) : ℝ :=
  if 0 < x then arctan (y / x)
  else if x < 0 then (if 0 ≤ y then arctan (y / x) + π else arctan (y / x) - π)
  else if 0 < y then π / 2 else if y < 0 then -(π / 2) else 0

/-- The cotangent is the tangent's inverse. -/
theorem ct_eq_inv (x : ℝ) : ct x = (tan x)⁻¹ := by rw [ct, tan_eq_sin_div_cos, inv_div]

/-- The cotangent repeats after a half turn. -/
theorem ct_add_pi (x : ℝ) : ct (x + π) = ct x := by rw [ct, ct, cos_add_pi, sin_add_pi, neg_div_neg_eq]

/-- The same half a turn back. -/
theorem ct_sub_pi (x : ℝ) : ct (x - π) = ct x := by rw [← ct_add_pi, sub_add_cancel]

/-- The cotangent of an arctangent is the inverse. -/
theorem ct_arctan (t : ℝ) : ct (arctan t) = t⁻¹ := by rw [ct_eq_inv, tan_arctan]

/-- The cotangent vanishes at the quarter turn. -/
theorem ct_quarter : ct (π / 2) = 0 := by rw [ct, cos_pi_div_two, zero_div]

/-- Off the axis `y = 0` the cotangent of the angle is the quotient of the coordinates. -/
theorem ct_ang (y x : ℝ) (hy : y ≠ 0) : ct (ang y x) = x / y := by
  unfold ang
  split_ifs with h1 h2 h3 h4 h5
  · rw [ct_arctan, inv_div]
  · rw [ct_add_pi, ct_arctan, inv_div]
  · rw [ct_sub_pi, ct_arctan, inv_div]
  · rw [ct_quarter, show x = 0 by linarith, zero_div]
  · rw [← ct_add_pi, show -(π / 2) + π = π / 2 by ring, ct_quarter, show x = 0 by linarith, zero_div]
  · exact absurd (le_antisymm (not_lt.1 h4) (not_lt.1 h5)) hy

/-- Above the axis the angle lies in the upper half turn. -/
theorem ang_pos (y x : ℝ) (hy : 0 < y) : 0 < ang y x ∧ ang y x < π := by
  have hp := pi_pos
  unfold ang
  split_ifs with h1 h2 h3
  · exact ⟨arctan_pos.2 (div_pos hy h1), by linarith [arctan_lt_pi_div_two (y / x)]⟩
  · exact ⟨by linarith [neg_pi_div_two_lt_arctan (y / x)], by linarith [arctan_lt_zero.2 (div_neg_of_pos_of_neg hy h2)]⟩
  all_goals first | (exfalso; linarith) | constructor <;> linarith

/-- Below the axis it lies in the lower half turn. -/
theorem ang_neg (y x : ℝ) (hy : y < 0) : 0 < ang y x + π ∧ ang y x + π < π := by
  have hp := pi_pos
  unfold ang
  split_ifs with h1 h2 h3
  · exact ⟨by linarith [neg_pi_div_two_lt_arctan (y / x)], by linarith [arctan_lt_zero.2 (div_neg_of_neg_of_pos hy h1)]⟩
  · exfalso; linarith
  · exact ⟨by linarith [arctan_pos.2 (div_pos_of_neg_of_neg hy h2)], by linarith [arctan_lt_pi_div_two (y / x)]⟩
  all_goals first | (exfalso; linarith) | constructor <;> linarith

/-- On the axis it is zero or the half turn. -/
theorem ang_zero (x : ℝ) : ang 0 x = 0 ∨ ang 0 x = π := by
  unfold ang
  split_ifs with h1 h2 h3 h4 <;> simp at *

/-- The half turn's literal in the reference and the precondition. -/
def piLit : ℝ := 13176795 / 4194304

/-- Within the gap the bins' phase keeps away from the bin borders. -/
structure Inside (y x : ℝ) : Prop where
  low : 2⁻¹ ^ 20 ≤ ang y x / piLit * 9 - ⌊ang y x / piLit * 9⌋
  high : 2⁻¹ ^ 20 ≤ ⌈ang y x / piLit * 9⌉ - ang y x / piLit * 9

/-- The literal's phase and the exact one lie close together. -/
theorem phase_close (t : ℝ) (h : |t| ≤ π) : |t / π * 9 - t / piLit * 9| ≤ 2.7e-7 := by
  obtain ⟨l, u⟩ := pi_close
  have e : t / π * 9 - t / piLit * 9 = t * (9 * (piLit - π) / (π * piLit)) := by
    have := pi_pos.ne'
    rw [piLit]; field_simp
  have hq : |9 * (piLit - π) / (π * piLit)| * π ≤ 2.7e-7 := by
    have hl : 0 < piLit - π := by rw [piLit]; norm_num at u ⊢; linarith
    rw [abs_of_nonneg (by have := pi_pos; have : 0 < piLit := by norm_num [piLit]
                          positivity)]
    rw [show 9 * (piLit - π) / (π * piLit) * π = 9 * (piLit - π) / piLit by have := pi_pos.ne'; field_simp]
    rw [div_le_iff₀ (by norm_num [piLit])]
    norm_num [piLit] at l ⊢
    linarith
  rw [e, abs_mul, mul_comm]
  refine le_trans ?_ hq
  exact mul_le_mul_of_nonneg_left h (abs_nonneg _)

/-- An angle is at most a half turn to either side. -/
theorem abs_ang_le (y x : ℝ) : |ang y x| ≤ π := by
  have hp := pi_pos
  rw [abs_le]
  rcases lt_trichotomy y 0 with h | h | h
  · have := ang_neg y x h; constructor <;> linarith
  · subst h; rcases ang_zero x with h | h <;> rw [h] <;> constructor <;> linarith
  · have := ang_pos y x h; constructor <;> linarith

/-- So the exact phase has the same floor, keeps its distance from it and from the number after it. -/
theorem Inside.exact {y x : ℝ} (h : Inside y x) :
    (⌊ang y x / π * 9⌋ : ℝ) + 68e-8 ≤ ang y x / π * 9 ∧ ang y x / π * 9 ≤ ⌊ang y x / π * 9⌋ + 1 - 68e-8
      ∧ ⌊ang y x / piLit * 9⌋ = ⌊ang y x / π * 9⌋ ∧ ⌈ang y x / piLit * 9⌉ = ⌊ang y x / π * 9⌋ + 1 := by
  have hc := abs_le.1 (phase_close _ (abs_ang_le y x))
  obtain ⟨h1, h2⟩ := h
  set p := ang y x / piLit * 9
  set q := ang y x / π * 9
  rw [inv_pow] at h1 h2
  have f1 : (⌈p⌉ : ℝ) ≤ ⌊p⌋ + 1 := by exact_mod_cast Int.ceil_le_floor_add_one p
  norm_num at hc
  have g1 : (9.5e-7 : ℝ) ≤ p - ⌊p⌋ := le_trans (by norm_num) h1
  have g2 : (9.5e-7 : ℝ) ≤ ⌈p⌉ - p := le_trans (by norm_num) h2
  clear h1 h2
  have g3 : (9.5e-7 : ℝ) = 95 / 100000000 := by norm_num
  rw [g3] at g1 g2
  have hq : ⌊q⌋ = ⌊p⌋ := Int.floor_eq_iff.2 ⟨by linarith [hc.1], by linarith [hc.2]⟩
  rw [hq]
  refine ⟨by norm_num; linarith [hc.1], by norm_num; linarith [hc.2], rfl, ?_⟩
  rw [Int.ceil_eq_iff]
  push_cast
  exact ⟨by linarith [hc.1], by linarith [hc.2]⟩

/-- Within the gap the point is off the axis. -/
theorem Inside.ne_zero {y x : ℝ} (h : Inside y x) : y ≠ 0 := by
  rintro rfl
  obtain ⟨h1, h2, -⟩ := h.exact
  have hp := pi_pos.ne'
  rcases ang_zero x with h0 | h0
  · rw [h0] at h1; norm_num at h1
  · rw [h0, div_self hp] at h1; norm_num at h1

/-- The quotient compared with one threshold, on the upper half turn: it falls at or below the threshold exactly when the
    phase has passed the threshold's bin border. -/
theorem ct_le_thr (t : ℝ) (n : ℤ) (h0 : 0 < t) (hpi : t < π) (h1 : (n : ℝ) + 68e-8 ≤ t / π * 9) (h2 : t / π * 9 ≤ n + 1 - 68e-8)
    (k : Fin 8) : ct t ≤ thr k ↔ ((k : ℕ) : ℤ) + 1 ≤ n := by
  obtain ⟨l, u⟩ := pi_close
  have hp := pi_pos
  have ht := abs_le.1 (thr_close k)
  have hk : ((k : ℕ) : ℝ) ≤ 7 := by exact_mod_cast Nat.le_of_lt_succ k.2
  have hk0 : (0 : ℝ) ≤ ((k : ℕ) : ℝ) := by positivity
  have e : t / π * 9 * (π / 9) = t := by field_simp
  have a1 := mul_le_mul_of_nonneg_right h1 (show 0 ≤ π / 9 by positivity)
  have a2 := mul_le_mul_of_nonneg_right h2 (show 0 ≤ π / 9 by positivity)
  rw [e] at a1 a2
  constructor
  · intro h
    by_contra hn
    have hn' : (n : ℝ) ≤ (k : ℕ) := by exact_mod_cast (by omega : n ≤ (k : ℕ))
    have b := mul_le_mul_of_nonneg_right hn' (show 0 ≤ π / 9 by positivity)
    have := ct_step t (((k : ℕ) + 1 : ℝ) * π / 9) h0 (by norm_num at *; nlinarith) (by nlinarith)
    norm_num at *
    linarith
  · intro h
    have hn' : ((k : ℕ) : ℝ) + 1 ≤ n := by exact_mod_cast h
    have b := mul_le_mul_of_nonneg_right hn' (show 0 ≤ π / 9 by positivity)
    have := ct_step (((k : ℕ) + 1 : ℝ) * π / 9) t (by positivity) (by norm_num at *; nlinarith) hpi
    norm_num at *
    linarith

/-- The count of thresholds at or above the quotient. -/
def cnt (r : ℝ) : ℕ := (Finset.univ.filter fun k : Fin 8 => r ≤ thr k).card

/-- Of the eight numbers from one on, `n` are at most `n`. -/
theorem card_le (n : ℤ) (h0 : 0 ≤ n) (h8 : n ≤ 8) :
    (((Finset.univ.filter fun k : Fin 8 => ((k : ℕ) : ℤ) + 1 ≤ n).card : ℕ) : ℤ) = n := by
  interval_cases n <;> decide

/-- The count is the bin: within the gap it lies below nine, and the phase's floor is the count up to a turn of nine. -/
theorem Inside.count {y x : ℝ} (h : Inside y x) :
    ∃ n : ℤ, ⌊ang y x / piLit * 9⌋ = n ∧ ⌈ang y x / piLit * 9⌉ = n + 1 ∧
      ((0 ≤ n ∧ n ≤ 8 ∧ (cnt (x / y) : ℤ) = n) ∨ (-9 ≤ n ∧ n ≤ -1 ∧ (cnt (x / y) : ℤ) = n + 9)) := by
  obtain ⟨h1, h2, hf, h3⟩ := h.exact
  refine ⟨_, hf, h3, ?_⟩
  set n := ⌊ang y x / π * 9⌋
  have hp := pi_pos
  have e := ct_ang y x h.ne_zero
  rcases lt_or_gt_of_ne h.ne_zero with hy | hy
  · right
    obtain ⟨t1, t2⟩ := ang_neg y x hy
    have q : (ang y x + π) / π * 9 = ang y x / π * 9 + 9 := by field_simp
    have c (k : Fin 8) := ct_le_thr (ang y x + π) (n + 9) t1 t2 (by rw [q]; push_cast; linarith) (by rw [q]; push_cast; linarith) k
    have m1 : ang y x / π * 9 < 0 := by
      have : ang y x / π < 0 := div_neg_of_neg_of_pos (by linarith) hp
      linarith
    have m2 : -9 < ang y x / π * 9 := by
      have : -1 < ang y x / π := by rw [lt_div_iff₀ hp]; linarith
      linarith
    have n1 : n < 0 := by exact_mod_cast (by linarith : (n : ℝ) < 0)
    have n2 : -9 ≤ n := Int.le_floor.2 (by push_cast; linarith)
    refine ⟨n2, by omega, ?_⟩
    rw [cnt, ← e, ← ct_add_pi]
    simp only [c]
    exact card_le _ (by omega) (by omega)
  · left
    obtain ⟨t1, t2⟩ := ang_pos y x hy
    have c (k : Fin 8) := ct_le_thr (ang y x) n t1 t2 h1 h2 k
    have m1 : ang y x / π * 9 < 9 := by
      have : ang y x / π < 1 := by rw [div_lt_iff₀ hp]; linarith
      linarith
    have n1 : n < 9 := by exact_mod_cast (by push_cast; norm_num at h1; linarith : (n : ℝ) < (9 : ℤ))
    have n2 : 0 ≤ n := Int.le_floor.2 (by push_cast; positivity)
    refine ⟨n2, by omega, ?_⟩
    rw [cnt, ← e]
    simp only [c]
    exact card_le _ n2 (by omega)

end Cert.Hog

end
-- ==== Proof.Model.lean ====
module

public import proofs.«01_k».proof.Proof.Angle
public import Mathlib.Data.EReal.Operations
public import Mathlib.Algebra.BigOperators.Fin

@[expose] public section

noncomputable section

namespace Cert.Hog

open Real

/-- An image of 512 by 512 real numbers between zeros: row and column `0` and `513` are the frame. -/
def pad (s : Fin 512 → Fin 512 → ℝ) (i j : ℕ) : ℝ :=
  if h : (1 ≤ i ∧ i ≤ 512) ∧ 1 ≤ j ∧ j ≤ 512 then s ⟨i - 1, by omega⟩ ⟨j - 1, by omega⟩ else 0

/-- Inside the frame is the image. -/
theorem pad_in (s : Fin 512 → Fin 512 → ℝ) (i j : Fin 512) : pad s (i + 1) (j + 1) = s i j := by
  rw [pad, dif_pos (by omega)]; rfl

/-- The first and the last row are zero. -/
theorem pad_row (s : Fin 512 → Fin 512 → ℝ) (i j : ℕ) (h : i = 0 ∨ i = 513) : pad s i j = 0 := dif_neg (by omega)

/-- The first and the last column are zero. -/
theorem pad_col (s : Fin 512 → Fin 512 → ℝ) (i j : ℕ) (h : j = 0 ∨ j = 513) : pad s i j = 0 := dif_neg (by omega)

/-- The image smoothed along its columns. -/
def vert (s : Fin 512 → Fin 512 → ℝ) (i j : ℕ) : ℝ := pad s i j + 2 * pad s (i + 1) j + pad s (i + 2) j
/-- The image smoothed along its rows. -/
def horz (s : Fin 512 → Fin 512 → ℝ) (i j : ℕ) : ℝ := pad s i j + 2 * pad s i (j + 1) + pad s i (j + 2)

/-- The frame's columns stay zero under the smoothing along columns. -/
theorem vert_zero (s : Fin 512 → Fin 512 → ℝ) (i j : ℕ) (h : j = 0 ∨ j = 513) : vert s i j = 0 := by
  simp [vert, pad_col s _ j h]

/-- The frame's rows stay zero under the smoothing along rows. -/
theorem horz_zero (s : Fin 512 → Fin 512 → ℝ) (i j : ℕ) (h : i = 0 ∨ i = 513) : horz s i j = 0 := by
  simp [horz, pad_row s i _ h]

/-- The first gradient: the difference of the column sums left and right. -/
def gX (s : Fin 512 → Fin 512 → ℝ) (i j : ℕ) : ℝ := vert s i j - vert s i (j + 2)
/-- The second gradient: the difference of the row sums above and below. -/
def gY (s : Fin 512 → Fin 512 → ℝ) (i j : ℕ) : ℝ := horz s i j - horz s (i + 2) j

/-- The gradient's length. -/
def mag (s : Fin 512 → Fin 512 → ℝ) (i j : ℕ) : ℝ := √(gX s i j * gX s i j + gY s i j * gY s i j)

/-- What an element adds to bin `b`: its length in its own bin, one less its length in the bin after. -/
def share (s : Fin 512 → Fin 512 → ℝ) (b : Fin 9) (i j : ℕ) : ℝ :=
  if cnt (gY s i j / gX s i j) = b.val then mag s i j
  else if cnt (gY s i j / gX s i j) = (b + 8 : Fin 9).val then 1 - mag s i j else 0

/-- The mean of the shares over the eight by eight block at `(p, q)`. -/
def pool (s : Fin 512 → Fin 512 → ℝ) (b : Fin 9) (p q : ℕ) : ℝ :=
  (∑ u : Fin 8, ∑ v : Fin 8, share s b (8 * p + u) (8 * q + v)) / 64

/-- The greys of one image of a batch: its channels' mean. -/
def grey (x : Fin 3 → Fin 512 → Fin 512 → ℝ) (i j : Fin 512) : ℝ := (x 0 i j + x 1 i j + x 2 i j) * (1 / 3)

/-- Every element's direction keeps off the bins' borders. -/
def Clear (s : Fin 512 → Fin 512 → ℝ) : Prop := ∀ i j : Fin 512, Inside (gX s i j) (gY s i j)

/-- A sum of real numbers is the same sum among the extended ones. -/
theorem coe_sum {ι : Type*} [Fintype ι] (f : ι → ℝ) : ((∑ k, f k : ℝ) : EReal) = ∑ k, (f k : EReal) := by
  classical
  refine Finset.induction_on Finset.univ (by simp) fun a t ha ih => ?_
  rw [Finset.sum_insert ha, Finset.sum_insert ha, EReal.coe_add, ih]

/-- A weighted sum over a row whose weights are one eighth on block `p` and zero elsewhere is the block's mean. -/
theorem sum_block (g : ℕ → ℝ) (p : Fin 64) :
    ∑ k : Fin 512, (if k.val / 8 = p.val then 1 / 8 else 0) * g k = (∑ u : Fin 8, g (8 * p + u)) / 8 := by
  rw [← Equiv.sum_comp (finProdFinEquiv (m := 64) (n := 8)), Fintype.sum_prod_type, Finset.sum_eq_single p]
  · rw [Finset.sum_div]
    refine Finset.sum_congr rfl fun u _ => ?_
    have e : (finProdFinEquiv (p, u) : Fin (64 * 8)).val = u.val + 8 * p.val := rfl
    have h : (u.val + 8 * p.val) / 8 = p.val := by omega
    show (if (finProdFinEquiv (p, u) : Fin (64 * 8)).val / 8 = p.val then (1 / 8 : ℝ) else 0) * g (finProdFinEquiv (p, u) : Fin (64 * 8)).val = _
    rw [e, if_pos h, add_comm]
    ring
  · intro a _ ha
    refine Finset.sum_eq_zero fun u _ => ?_
    have e : (finProdFinEquiv (a, u) : Fin (64 * 8)).val = u.val + 8 * a.val := rfl
    have h : ¬ (u.val + 8 * a.val) / 8 = p.val := fun h => ha (Fin.ext (by omega))
    show (if (finProdFinEquiv (a, u) : Fin (64 * 8)).val / 8 = p.val then (1 / 8 : ℝ) else 0) * g (finProdFinEquiv (a, u) : Fin (64 * 8)).val = _
    rw [e, if_neg h, zero_mul]
  · exact fun h => absurd (Finset.mem_univ p) h

end Cert.Hog

end
-- ==== Proof.Words.lean ====
module

public import proofs.«01_k».proof.Proof.Model
public import Idealize.ShloMosaic.Lib.Pipeline.Value
public import Idealize.ShloMosaic.Lib.IdealHost

@[expose] public section

noncomputable section

namespace Cert.Hog

open Idealize.ShloMosaic

/-! The literals of the two programs as extended reals. -/

/-- The word of two. -/
theorem lit_two : Ideal.ofBits .f32 0x40000000#32 = ((2 : ℝ) : EReal) := by
  simp [Ideal.ofBits, Ideal.ieee, -EReal.coe_mul]; norm_num

/-- The word of one eighth. -/
theorem lit_eighth : Ideal.ofBits .f32 0x3E000000#32 = ((1 / 8 : ℝ) : EReal) := by
  simp [Ideal.ofBits, Ideal.ieee, -EReal.coe_mul]; norm_num

/-- The word of one. -/
theorem lit_one : Ideal.ofBits .f32 0x3F800000#32 = ((1 : ℝ) : EReal) := by
  rw [Ideal.ofBits_one_f32, EReal.coe_one]

/-- The word of zero. -/
theorem lit_zero : Ideal.ofBits .f32 0x00000000#32 = ((0 : ℝ) : EReal) := by
  rw [Ideal.ofBits_zero_f32, EReal.coe_zero]

/-- The word of three. -/
theorem lit_three : Ideal.ofBits .f32 0x40400000#32 = ((3 : ℝ) : EReal) := by
  simp [Ideal.ofBits, Ideal.ieee, -EReal.coe_mul]; norm_num

/-- The word of nine. -/
theorem lit_nine : Ideal.ofBits .f32 0x41100000#32 = ((9 : ℝ) : EReal) := by
  simp [Ideal.ofBits, Ideal.ieee, -EReal.coe_mul]; norm_num

/-- The word of sixty-four. -/
theorem lit_cells : Ideal.ofBits .f32 0x42800000#32 = ((64 : ℝ) : EReal) := by
  simp [Ideal.ofBits, Ideal.ieee, -EReal.coe_mul]; norm_num

/-- The word of the half turn's literal. -/
theorem lit_pi : Ideal.ofBits .f32 0x40490FDB#32 = ((piLit : ℝ) : EReal) := by
  simp [Ideal.ofBits, Ideal.ieee, piLit, -EReal.coe_mul]; norm_num

/-- The word of the gap. -/
theorem lit_gap : Ideal.ofBits .f32 0x35800000#32 = ((2⁻¹ ^ 20 : ℝ) : EReal) := by
  simp [Ideal.ofBits, Ideal.ieee, -EReal.coe_mul, -EReal.coe_pow]; norm_num

/-- The thresholds' literals. -/
def thrWord : Fin 8 → BitVec 32 :=
  ![0x402FD6AC#32, 0x3F988B62#32, 0x3F13CD3A#32, 0x3E348F0F#32, 0xBE348F0F#32, 0xBF13CD3A#32, 0xBF988B62#32, 0xC02FD6AC#32]

/-- The numbers that the words of the thresholds are. -/
theorem lit_thr (k : Fin 8) : Ideal.ofBits .f32 (thrWord k) = ((thr k : ℝ) : EReal) := by
  fin_cases k <;> simp [thrWord, thr, Ideal.ofBits, Ideal.ieee, -EReal.coe_mul, -EReal.coe_neg] <;> norm_num

/-- A truth value as a word, widened and read as a number. -/
theorem sitofp_bool (φ : FTy) (p : Prop) [Decidable p] :
    (FloatOps.sitofp (F := Ideal) φ ((BitVec.ofBool (decide p)).setWidth 32)) = (((if p then 1 else 0 : ℕ) : ℝ) : EReal) := by
  show ((((BitVec.ofBool (decide p)).setWidth 32).toInt : ℝ) : EReal) = _
  by_cases h : p <;> simp [h]

/-- A comparison's truth value chooses. -/
theorem select_if {α : Type} (p : Prop) [Decidable p] (a b : α) :
    Scalar.select (BitVec.ofBool (decide p)) a b = if p then a else b := by
  by_cases h : p <;> simp [Scalar.select, h]

end Cert.Hog

end
-- ==== Proof.KElem.lean ====
module

public import proofs.«01_k».proof.Proof.Pieces
public import proofs.«01_k».proof.Proof.Words
public import Idealize.ShloMosaic.Lib.KernelVsHost

@[expose] public section

set_option maxRecDepth 16384

noncomputable section

namespace Cert.Hog

open Cert.KernelIdeal Cert.KernelIdeal.Gen Idealize.ShloMosaic Idealize.ShloMosaic.TcCoe Idealize.SL.Sem
open Idealize.ShloMosaic.ValueIdx

/-- A matrix of the kernel shows the inner part of a function of the padded positions. -/
def Shows (w : FVec Ideal S512x512 .f32) (f : ℕ → ℕ → ℝ) : Prop :=
  ∀ i j : Fin 512, w (ix2 i j) = ((f (i + 1) (j + 1) : ℝ) : EReal)

/-- The same of a matrix with a unit axis in front. -/
def Shows1 (w : FVec Ideal S1x512x512 .f32) (f : ℕ → ℕ → ℝ) : Prop :=
  ∀ i j : Fin 512, w (ix3 0 i j) = ((f (i + 1) (j + 1) : ℝ) : EReal)

/-- Dropping a leading axis of one element keeps the elements. -/
theorem drop1 {α : Type} (w : S1x512x512.Idx → α) (i j : Fin 512) :
    shapeCast S512x512 w shapeCasts_S1x512x512_S512x512 (ix2 i j) = w (ix3 0 i j) := by
  refine (shapeCast_dropUnit_apply _ w _ _).trans (congrArg w ?_)
  funext a; match a with | ⟨0, _⟩ => rfl | ⟨1, _⟩ => rfl | ⟨2, _⟩ => rfl

/-- Adding a leading axis of one element keeps the elements. -/
theorem add1 {α : Type} (w : S512x512.Idx → α) (i j : Fin 512) :
    shapeCast S1x512x512 w shapeCasts_S512x512_S1x512x512 (ix3 0 i j) = w (ix2 i j) := by
  refine (shapeCast_addUnit_apply _ w _ _).trans (congrArg w ?_)
  funext a; match a with | ⟨0, _⟩ => rfl | ⟨1, _⟩ => rfl

/-- Dropping two leading axes of one element keeps the elements. -/
theorem drop2 {α : Type} (w : S1x1x512x512.Idx → α) (i j : Fin 512) :
    shapeCast S512x512 w shapeCasts_S1x1x512x512_S512x512 (ix2 i j) = w (ix4 0 0 i j) := by
  refine shapeCast_apply w _ _ _ ?_
  rw [Shape.rowMajor_val_four, Shape.rowMajor_val_two]
  show ((0 * 1 + 0) * 512 + i.val) * 512 + j.val = i.val * 512 + j.val
  omega

/-- A word below the width equals a literal exactly when the numbers are equal. -/
theorem word_eq (n k : ℕ) (hn : n < 2 ^ 32) (hk : k < 2 ^ 32) :
    IntOp.cmpi .eq (BitVec.ofNat 32 n) (BitVec.ofNat 32 k) = BitVec.ofBool (decide (n = k)) := by
  have : (BitVec.ofNat 32 n = BitVec.ofNat 32 k) ↔ n = k := by
    rw [← BitVec.toNat_inj, BitVec.toNat_ofNat, BitVec.toNat_ofNat, Nat.mod_eq_of_lt hn, Nat.mod_eq_of_lt hk]
  show BitVec.ofBool (BitVec.ofNat 32 n == BitVec.ofNat 32 k) = _
  rw [← Bool.beq_eq_decide_eq]
  congr 1
  rw [Bool.eq_iff_iff, beq_iff_eq, beq_iff_eq, this]

/-- The mask of the first column. -/
theorem first_col (i j : Fin 512) : k0_pay2 (ix2 i j) = BitVec.ofBool (decide (j.val = 0)) := by
  show IntOp.cmpi .eq (iota .tc S512x512 32 [1] iota_S512x512_d1_w32 (ix2 i j)) (BitVec.ofNat 32 0) = _
  rw [iota_single_apply]
  exact word_eq _ 0 (by have := j.2; show j.val < _; omega) (by norm_num)

/-- The mask of the last column. -/
theorem last_col (i j : Fin 512) : k0_pay3 (ix2 i j) = BitVec.ofBool (decide (j.val = 511)) := by
  show IntOp.cmpi .eq (iota .tc S512x512 32 [1] iota_S512x512_d1_w32 (ix2 i j)) (BitVec.ofNat 32 511) = _
  rw [iota_single_apply]
  exact word_eq _ 511 (by have := j.2; show j.val < _; omega) (by norm_num)

/-- A matrix rolled one to the right with zeros in its first column shows its left neighbours. -/
theorem roll_right (w : FVec Ideal S512x512 .f32) (f : ℕ → ℕ → ℝ) (h : Shows w f) (h0 : ∀ i, f i 0 = 0) (i j : Fin 512) :
    select k0_pay2 (broadcast S512x512 (Scalar.ofBits (F := Ideal) .f32 0x00000000#32)) (dynamicRotate 1 1#32 none w rotates_S512x512_d1) (ix2 i j)
      = ((f (i + 1) j : ℝ) : EReal) := by
  show Scalar.select (k0_pay2 (ix2 i j)) (Ideal.ofBits .f32 0x00000000#32) (dynamicRotate 1 1#32 none w rotates_S512x512_d1 (ix2 i j)) = _
  rw [first_col, select_if, lit_zero]
  by_cases hj : j.val = 0
  · rw [if_pos hj, hj, h0]
  · rw [if_neg hj, dynamicRotate_apply 1 1#32 w _ (ix2 i j) (ix2 i ⟨j.val - 1, by omega⟩), h]
    · show ((f (i + 1) (j.val - 1 + 1) : ℝ) : EReal) = _
      rw [show j.val - 1 + 1 = j.val by omega]
    · intro b
      match b with
      | ⟨0, _⟩ => rfl
      | ⟨1, _⟩ =>
        show j.val - 1 = (j.val + 512 - 1 % 512) % 512
        omega

/-- A matrix rolled one to the left with zeros in its last column shows its right neighbours. -/
theorem roll_left (w : FVec Ideal S512x512 .f32) (f : ℕ → ℕ → ℝ) (h : Shows w f) (h0 : ∀ i, f i 513 = 0) (i j : Fin 512) :
    select k0_pay3 (broadcast S512x512 (Scalar.ofBits (F := Ideal) .f32 0x00000000#32)) (dynamicRotate 1 511#32 none w rotates_S512x512_d1) (ix2 i j)
      = ((f (i + 1) (j + 2) : ℝ) : EReal) := by
  show Scalar.select (k0_pay3 (ix2 i j)) (Ideal.ofBits .f32 0x00000000#32) (dynamicRotate 1 511#32 none w rotates_S512x512_d1 (ix2 i j)) = _
  rw [last_col, select_if, lit_zero]
  by_cases hj : j.val = 511
  · rw [if_pos hj, hj, h0]
  · rw [if_neg hj, dynamicRotate_apply 1 511#32 w _ (ix2 i j) (ix2 i ⟨j.val + 1, by omega⟩), h]
    intro b
    match b with
    | ⟨0, _⟩ => rfl
    | ⟨1, _⟩ =>
      show j.val + 1 = (j.val + 512 - 511 % 512) % 512
      have := j.2
      omega

/-- The channels' mean. -/
theorem gray_shows (a b c : Vec Ideal S1x1x512x512 .f32) (x : Fin 3 → Fin 512 → Fin 512 → ℝ)
    (ha : ∀ i j, a (ix4 0 0 i j) = ((x 0 i j : ℝ) : EReal)) (hb : ∀ i j, b (ix4 0 0 i j) = ((x 1 i j : ℝ) : EReal))
    (hc : ∀ i j, c (ix4 0 0 i j) = ((x 2 i j : ℝ) : EReal)) : Shows (k0_pay1 a b c) (pad (grey x)) := by
  intro i j
  have e : (Named.named κ "third" 0x3EAAAAAB#32 : Ideal .f32) = ((1 / 3 : ℝ) : EReal) := rfl
  show (shapeCast S512x512 a shapeCasts_S1x1x512x512_S512x512 (ix2 i j) + shapeCast S512x512 b shapeCasts_S1x1x512x512_S512x512 (ix2 i j)
    + shapeCast S512x512 c shapeCasts_S1x1x512x512_S512x512 (ix2 i j)) * (Named.named κ "third" 0x3EAAAAAB#32 : Ideal .f32) = _
  rw [drop2, drop2, drop2, ha, hb, hc, e, pad_in, ← EReal.coe_add, ← EReal.coe_add, ← EReal.coe_mul]
  rfl

/-- The image smoothed along its rows. -/
theorem smooth_shows (w : FVec Ideal S512x512 .f32) (s : Fin 512 → Fin 512 → ℝ) (h : Shows w (pad s)) : Shows1 (smooth w) fun i j => horz s i (j - 1) := by
  intro i j
  have l := roll_right w _ h (fun i => pad_col s i 0 (Or.inl rfl)) i j
  have r := roll_left w _ h (fun i => pad_col s i 513 (Or.inr rfl)) i j
  unfold smooth k0_pay11
  refine (add1 _ i j).trans ?_
  show select k0_pay2 (broadcast S512x512 (Scalar.ofBits (F := Ideal) .f32 0x00000000#32)) (dynamicRotate 1 1#32 none w rotates_S512x512_d1) (ix2 i j)
    + Ideal.ofBits .f32 0x40000000#32 * w (ix2 i j)
    + select k0_pay3 (broadcast S512x512 (Scalar.ofBits (F := Ideal) .f32 0x00000000#32)) (dynamicRotate 1 511#32 none w rotates_S512x512_d1) (ix2 i j) = _
  rw [l, r, h, lit_two, ← EReal.coe_mul, ← EReal.coe_add, ← EReal.coe_add]
  rfl

/-- The horizontal gradient, from the rows above and below. -/
theorem gradX_shows (w : FVec Ideal S512x512 .f32) (u d : Vec Ideal S1x512x512 .f32) (s : Fin 512 → Fin 512 → ℝ) (h : Shows w (pad s))
    (hu : ∀ i j : Fin 512, u (ix3 0 i j) = ((pad s i (j + 1) : ℝ) : EReal))
    (hd : ∀ i j : Fin 512, d (ix3 0 i j) = ((pad s (i + 2) (j + 1) : ℝ) : EReal)) (i j : Fin 512) :
    k0_pay13 w k0_pay2 k0_pay3 u d (ix2 i j) = ((gX s i j : ℝ) : EReal) := by
  let v : FVec Ideal S512x512 .f32 := addf (addf (shapeCast S512x512 u shapeCasts_S1x512x512_S512x512)
    (mulf (broadcast S512x512 (Scalar.ofBits .f32 0x40000000#32)) w)) (shapeCast S512x512 d shapeCasts_S1x512x512_S512x512)
  have hv : Shows v fun i j => vert s (i - 1) j := by
    intro i j
    show shapeCast S512x512 u shapeCasts_S1x512x512_S512x512 (ix2 i j) + Ideal.ofBits .f32 0x40000000#32 * w (ix2 i j)
      + shapeCast S512x512 d shapeCasts_S1x512x512_S512x512 (ix2 i j) = _
    rw [drop1, drop1, hu, hd, h, lit_two, ← EReal.coe_mul, ← EReal.coe_add, ← EReal.coe_add]
    rfl
  have l := roll_right v _ hv (fun i => vert_zero s _ 0 (Or.inl rfl)) i j
  have r := roll_left v _ hv (fun i => vert_zero s _ 513 (Or.inr rfl)) i j
  show select k0_pay2 (broadcast S512x512 (Scalar.ofBits (F := Ideal) .f32 0x00000000#32)) (dynamicRotate 1 1#32 none v rotates_S512x512_d1) (ix2 i j)
    - select k0_pay3 (broadcast S512x512 (Scalar.ofBits (F := Ideal) .f32 0x00000000#32)) (dynamicRotate 1 511#32 none v rotates_S512x512_d1) (ix2 i j) = _
  rw [l, r, ← EReal.coe_sub]
  rfl

end Cert.Hog

end
-- ==== Proof.KRows.lean ====
module

public import proofs.«01_k».proof.Proof.KElem

@[expose] public section

set_option maxRecDepth 16384

noncomputable section

namespace Cert.Hog

open Cert.KernelIdeal Cert.KernelIdeal.Gen Idealize.ShloMosaic Idealize.ShloMosaic.TcCoe Idealize.SL.Sem
open Idealize.ShloMosaic.ValueIdx

/-- A scratch holding an image between two zero rows, read at an index: the padded function, whatever was stored before. -/
theorem framed_canon (im : Fin 4) (w : FVec Ideal S1x512x512 .f32) (f : ℕ → ℕ → ℝ) (h : Shows1 w f)
    (h0 : ∀ j, f 0 j = 0) (h1 : ∀ j, f 513 j = 0) (rest : List (View.Piece (Elt Ideal) S4x514x512 .f32)) (k : Fin 514) (j : Fin 512) :
    View.canon (framed im w ++ rest) (ix3 im k j) = ((f k (j + 1) : ℝ) : EReal) := by
  have z : ∀ x, (k0_pay5 (F := Ideal)) x = ((0 : ℝ) : EReal) := fun _ => lit_zero
  have hk := k.2
  have hj := j.2
  show View.canon (_ :: _ :: _ :: rest) _ = _
  by_cases c1 : k.val = 513
  · have e : (ix3 im k j : S4x514x512.Idx)
        = (Rect.unit (s := S4x514x512) ![im.val, 513, 0] S1x1x512.size (inb_end im)).emb (ix3 0 0 j) := by
      funext a
      match a with
      | ⟨0, _⟩ => exact Fin.ext (show im.val = im.val + 1 * 0 by omega)
      | ⟨1, _⟩ => exact Fin.ext (show k.val = 513 + 1 * 0 by omega)
      | ⟨2, _⟩ => exact Fin.ext (show j.val = 0 + 1 * j.val by omega)
    rw [e, View.canon_cons_emb, z, c1, h1]
  · rw [View.canon_cons_of_not_mem _ _ (by
      intro hm
      have hm' : (ix3 im k j : S4x514x512.Idx) ∈ (Rect.unit (s := S4x514x512) ![im.val, 513, 0] S1x1x512.size (inb_end im)).set := hm
      have q : 513 ≤ k.val := (Rect.mem_set_unit.1 hm' (1 : Fin 3)).1
      omega)]
    by_cases c2 : k.val = 0
    · rw [View.canon_cons_of_not_mem _ _ (by
        intro hm
        have hm' : (ix3 im k j : S4x514x512.Idx) ∈ (Rect.unit (s := S4x514x512) ![im.val, 1, 0] S1x512x512.size (inb_rows im 1)).set := hm
        have q : 1 ≤ k.val := (Rect.mem_set_unit.1 hm' (1 : Fin 3)).1
        omega)]
      have e : (ix3 im k j : S4x514x512.Idx)
          = (Rect.unit (s := S4x514x512) ![im.val, 0, 0] S1x1x512.size (inb_top im)).emb (ix3 0 0 j) := by
        funext a
        match a with
        | ⟨0, _⟩ => exact Fin.ext (show im.val = im.val + 1 * 0 by omega)
        | ⟨1, _⟩ => exact Fin.ext (show k.val = 0 + 1 * 0 by omega)
        | ⟨2, _⟩ => exact Fin.ext (show j.val = 0 + 1 * j.val by omega)
      rw [e, View.canon_cons_emb, z, c2, h0]
    · have e : (ix3 im k j : S4x514x512.Idx)
          = (Rect.unit (s := S4x514x512) ![im.val, 1, 0] S1x512x512.size (inb_rows im 1)).emb (ix3 0 ⟨k.val - 1, by omega⟩ j) := by
        funext a
        match a with
        | ⟨0, _⟩ => exact Fin.ext (show im.val = im.val + 1 * 0 by omega)
        | ⟨1, _⟩ => exact Fin.ext (show k.val = 1 + 1 * (k.val - 1) by omega)
        | ⟨2, _⟩ => exact Fin.ext (show j.val = 0 + 1 * j.val by omega)
      rw [e, View.canon_cons_emb, h]
      show ((f (k.val - 1 + 1) (j + 1) : ℝ) : EReal) = _
      rw [show k.val - 1 + 1 = k.val by omega]

/-- So the load of an image's rows from row `r` on. -/
theorem rows_apply (v : View sig .tc .vmem S4x514x512 .f32) (im : Fin 4) (r : Fin 3) (w : FVec Ideal S1x512x512 .f32) (f : ℕ → ℕ → ℝ)
    (h : Shows1 w f) (h0 : ∀ j, f 0 j = 0) (h1 : ∀ j, f 513 j = 0) (rest : List (View.Piece (Elt Ideal) S4x514x512 .f32)) (i j : Fin 512) :
    rows v (framed im w ++ rest) im r (ix3 0 i j) = ((f (i + r) (j + 1) : ℝ) : EReal) := by
  have hr := r.2
  have hi := i.2
  unfold rows
  rw [View.readCov_eq_canon']
  refine Eq.trans (congrArg (View.canon _) ?_) (framed_canon im w f h h0 h1 rest ⟨i.val + r.val, by omega⟩ j)
  funext a
  match a with
  | ⟨0, _⟩ => exact Fin.ext (show im.val + 1 * 0 = im.val by omega)
  | ⟨1, _⟩ => exact Fin.ext (show r.val + 1 * i.val = i.val + r.val by omega)
  | ⟨2, _⟩ => exact Fin.ext (show 0 + 1 * j.val = j.val by omega)

/-- The image's own stores stand first. -/
theorem upTo_cons (im : Fin 4) : ∃ l, upTo im = im :: l := by
  match im with
  | 0 => exact ⟨_, rfl⟩
  | 1 => exact ⟨_, rfl⟩
  | 2 => exact ⟨_, rfl⟩
  | 3 => exact ⟨_, rfl⟩

section Block

variable (arg1 : Memref sig .tc .vmem S4x3x512x512 .f32) (harg1 : arg1.IsWhole)
  (arg3 arg4 : Memref sig .tc .vmem S4x514x512 .f32) (x0 : Vec Ideal S4x3x512x512 .f32)
  (x : Fin 4 → Fin 3 → Fin 512 → Fin 512 → ℝ) (hx : ∀ im ch i j, x0 (ix4 im ch i j) = ((x im ch i j : ℝ) : EReal))

include hx in
/-- A channel as the kernel loads it. -/
theorem chan_apply (im : Fin 4) (ch : Fin 3) (i j : Fin 512) : chan arg1 harg1 x0 im ch (ix4 0 0 i j) = ((x im ch i j : ℝ) : EReal) := by
  unfold chan
  rw [View.readAt_apply, harg1.read_unread, ← hx]
  congr 1
  funext a
  match a with
  | ⟨0, _⟩ => exact Fin.ext (show im.val + 1 * 0 = im.val by omega)
  | ⟨1, _⟩ => exact Fin.ext (show ch.val + 1 * 0 = ch.val by omega)
  | ⟨2, _⟩ => exact Fin.ext (show 0 + 1 * i.val = i.val by omega)
  | ⟨3, _⟩ => exact Fin.ext (show 0 + 1 * j.val = j.val by omega)

include hx in
/-- The kernel's greys are the channels' mean. -/
theorem gray_apply (im : Fin 4) : Shows (gray arg1 harg1 x0 im) (pad (grey (x im))) :=
  gray_shows _ _ _ (x im) (chan_apply arg1 harg1 x0 x hx im 0) (chan_apply arg1 harg1 x0 x hx im 1) (chan_apply arg1 harg1 x0 x hx im 2)

include hx in
/-- The rows that the kernel reads back of the framed greys. -/
theorem greys_apply (v : View sig .tc .vmem S4x514x512 .f32) (im : Fin 4) (r : Fin 3) (i j : Fin 512) :
    rows v (greys arg1 harg1 x0 im) im r (ix3 0 i j) = ((pad (grey (x im)) (i + r) (j + 1) : ℝ) : EReal) := by
  obtain ⟨l, e⟩ := upTo_cons im
  unfold greys
  rw [e, List.flatMap_cons]
  refine rows_apply v im r _ (pad (grey (x im))) (fun i j => ?_) (fun j => pad_row _ _ _ (Or.inl rfl)) (fun j => pad_row _ _ _ (Or.inr rfl)) _ i j
  rw [add1]
  exact gray_apply arg1 harg1 x0 x hx im i j

include hx in
/-- The rows that the kernel reads back of the framed row sums. -/
theorem smooths_apply (v : View sig .tc .vmem S4x514x512 .f32) (im : Fin 4) (r : Fin 3) (i j : Fin 512) :
    rows v (smooths arg1 harg1 x0 im) im r (ix3 0 i j) = ((horz (grey (x im)) (i + r) j : ℝ) : EReal) := by
  obtain ⟨l, e⟩ := upTo_cons im
  unfold smooths
  rw [e, List.flatMap_cons]
  exact rows_apply v im r _ (fun i j => horz (grey (x im)) i (j - 1)) (smooth_shows _ _ (gray_apply arg1 harg1 x0 x hx im))
    (fun j => horz_zero _ _ _ (Or.inl rfl)) (fun j => horz_zero _ _ _ (Or.inr rfl)) _ i j

include hx in
/-- The kernel's first gradient. -/
theorem gradX_apply (im : Fin 4) (i j : Fin 512) :
    gradX arg1 harg1 arg3 x0 im (ix2 i j) = ((gX (grey (x im)) i j : ℝ) : EReal) :=
  gradX_shows _ _ _ _ (gray_apply arg1 harg1 x0 x hx im) (greys_apply arg1 harg1 x0 x hx arg3.view im 0)
    (greys_apply arg1 harg1 x0 x hx arg3.view im 2) i j

end Block

end Cert.Hog

end
-- ==== Proof.KPool.lean ====
module

public import proofs.«01_k».proof.Proof.KRows

@[expose] public section

set_option maxRecDepth 16384

noncomputable section

namespace Cert.Hog

open Cert.KernelIdeal Cert.KernelIdeal.Gen Idealize.ShloMosaic Idealize.ShloMosaic.TcCoe Idealize.SL.Sem
open Idealize.ShloMosaic.ValueIdx

/-- One threshold's contribution to the count. -/
theorem vote (r : ℝ) (k : Fin 8) :
    FloatOps.sitofp (F := Ideal) .f32 ((FloatOps.cmpf (F := Ideal) (φ := .f32) .ole ((r : ℝ) : EReal) (Ideal.ofBits .f32 (thrWord k))).setWidth 32)
      = (((if r ≤ thr k then 1 else 0 : ℕ) : ℝ) : EReal) := by
  rw [lit_thr]
  show FloatOps.sitofp (F := Ideal) .f32 ((BitVec.ofBool (decide (((r : ℝ) : EReal) ≤ ((thr k : ℝ) : EReal)))).setWidth 32) = _
  rw [sitofp_bool]
  simp only [EReal.coe_le_coe_iff]

/-- The count as a sum of truth values. -/
theorem cnt_sum (r : ℝ) : cnt r = ∑ k : Fin 8, if r ≤ thr k then 1 else 0 := by rw [cnt, Finset.card_filter]

/-- The bin the kernel counts for an element. -/
theorem binOf_apply (gx : FVec Ideal S512x512 .f32) (u d : Vec Ideal S1x512x512 .f32) (i : S512x512.Idx) (X Y : ℝ)
    (hx : gx i = (X : EReal)) (hy : k0_pay14 u d i = (Y : EReal)) (h0 : X ≠ 0) :
    binOf gx u d i = ((cnt (Y / X) : ℝ) : EReal) := by
  have q : k0_pay17 gx u d i = ((Y / X : ℝ) : EReal) := by
    show Ideal.div (k0_pay14 u d i) (gx i) = _
    rw [hx, hy, Ideal.div_coe h0, ← EReal.coe_mul, mul_one_div]
  have v (k : Fin 8) : FloatOps.sitofp (F := Ideal) .f32 ((FloatOps.cmpf (F := Ideal) (φ := .f32) .ole (k0_pay17 gx u d i) (Ideal.ofBits .f32 (thrWord k))).setWidth 32)
      = (((if Y / X ≤ thr k then 1 else 0 : ℕ) : ℝ) : EReal) := by rw [q]; exact vote _ k
  let t (k : Fin 8) : EReal := FloatOps.sitofp (F := Ideal) .f32 ((FloatOps.cmpf (F := Ideal) (φ := .f32) .ole (k0_pay17 gx u d i) (Ideal.ofBits .f32 (thrWord k))).setWidth 32)
  show Ideal.ofBits .f32 0x00000000#32 + t 0 + t 1 + t 2 + t 3 + t 4 + t 5 + t 6 + t 7 = _
  simp only [t, v]
  rw [lit_zero, cnt_sum, Fin.sum_univ_eight]
  simp only [← EReal.coe_add]
  congr 1
  push_cast
  ring

/-- The bins' literals. -/
theorem lit_word (b : Fin 9) : Ideal.ofBits .bf16 (word b) = ((b.val : ℝ) : EReal) := by
  fin_cases b <;> simp [word, Ideal.ofBits, Ideal.ieee, -EReal.coe_mul] <;> norm_num

/-- A bin compared with a literal. -/
theorem bin_eq (n : ℕ) (b : Fin 9) :
    FloatOps.cmpf (F := Ideal) (φ := .bf16) .oeq (((n : ℝ) : EReal)) (Ideal.ofBits .bf16 (word b)) = BitVec.ofBool (decide (n = b.val)) := by
  rw [lit_word]
  show BitVec.ofBool (decide (((n : ℝ) : EReal) = ((b.val : ℝ) : EReal))) = _
  simp only [EReal.coe_eq_coe_iff, Nat.cast_inj]

/-- An element's length. -/
theorem mag_apply (gx : FVec Ideal S512x512 .f32) (u d : Vec Ideal S1x512x512 .f32) (i : S512x512.Idx) (X Y : ℝ)
    (hx : gx i = (X : EReal)) (hy : k0_pay14 u d i = (Y : EReal)) : k0_pay15 gx u d i = ((√(X * X + Y * Y) : ℝ) : EReal) := by
  show Ideal.sqrt (gx i * gx i + k0_pay14 u d i * k0_pay14 u d i) = _
  rw [hx, hy, ← EReal.coe_mul, ← EReal.coe_mul, ← EReal.coe_add, Ideal.sqrt_coe, if_neg (by nlinarith [mul_self_nonneg X, mul_self_nonneg Y])]

/-- The quotient by eight as the kernel computes it, on the positions below 512. -/
def eighth (n : BitVec 32) : BitVec 32 :=
  Scalar.select
    (IntOp.andi
      (IntOp.cmpi .ne (IntOp.subi ((IntOp.cmpi .sgt n 0#32).setWidth 32) ((IntOp.cmpi .slt n 0#32).setWidth 32))
        (Scalar.subi (Scalar.extui (Scalar.cmpi .sgt 8#32 0#32)) (Scalar.extui (Scalar.cmpi .slt 8#32 0#32))))
      (IntOp.cmpi .ne (IntOp.remsi .vector n 8#32) 0#32))
    (IntOp.subi (IntOp.divsi .vector n 8#32) 1#32) (IntOp.divsi .vector n 8#32)

/-- The kernel's floored division by eight on the words of the coordinates. -/
theorem eighth_ofNat : ∀ k : Fin 512, eighth (BitVec.ofNat 32 k.val) = BitVec.ofNat 32 (k.val / 8) := by decide +kernel

/-- The weights of the two products: one eighth on the block, zero off it. -/
theorem weight (k : Fin 512) (q : Fin 64) :
    Scalar.select (IntOp.cmpi .eq (eighth (BitVec.ofNat 32 k.val)) (BitVec.ofNat 32 q.val)) (Ideal.ofBits .f32 0x3E000000#32) (Ideal.ofBits .f32 0x00000000#32)
      = ((if k.val / 8 = q.val then 1 / 8 else 0 : ℝ) : EReal) := by
  rw [eighth_ofNat, word_eq _ _ (by omega) (by omega), select_if, lit_eighth, lit_zero]
  split_ifs <;> rfl

/-- The block matrix on the right: one eighth where column `k` falls in block `q`. -/
theorem right_weight (k : Fin 512) (q : Fin 64) :
    k0_pay21 (F := Ideal) (ix2 k q) = ((if k.val / 8 = q.val then 1 / 8 else 0 : ℝ) : EReal) := by
  rw [← weight]
  have e0 : iota .tc S512x64 32 [0] iota_S512x64_d0_w32 (ix2 k q) = BitVec.ofNat 32 k.val := iota_single_apply _ _ _ _ _ _
  have e1 : iota .tc S512x64 32 [1] iota_S512x64_d1_w32 (ix2 k q) = BitVec.ofNat 32 q.val := iota_single_apply _ _ _ _ _ _
  rw [← e0, ← e1]
  rfl

/-- The block matrix on the left: one eighth where row `k` falls in block `p`. -/
theorem left_weight (p : Fin 64) (k : Fin 512) :
    k0_pay24 (F := Ideal) (iota .tc S64x512 32 [0] iota_S64x512_d0_w32) (iota .tc S64x512 32 [1] iota_S64x512_d1_w32) 8#32 k0_pay22 k0_pay23 (ix2 p k)
      = ((if k.val / 8 = p.val then 1 / 8 else 0 : ℝ) : EReal) := by
  rw [← weight]
  have e0 : iota .tc S64x512 32 [0] iota_S64x512_d0_w32 (ix2 p k) = BitVec.ofNat 32 p.val := iota_single_apply _ _ _ _ _ _
  have e1 : iota .tc S64x512 32 [1] iota_S64x512_d1_w32 (ix2 p k) = BitVec.ofNat 32 k.val := iota_single_apply _ _ _ _ _ _
  rw [← e0, ← e1]
  rfl

/-- The first product at an index. -/
theorem left_dot (a : FVec Ideal S64x512 .bf16) (b : FVec Ideal S512x512 .bf16) (p : Fin 64) (j : Fin 512) :
    matmul dot_S64x512_S512x512_S64x512_1_0_0_1_n_n none a b (constant S64x512 .f32 0x00000000#32) (ix2 p j)
      = ∑ k : Fin 512, a (ix2 p k) * b (ix2 k j) := by
  refine (Ideal.matmul_constant_zero_apply _ none a b (ix2 p j)).trans ?_
  rw [← Equiv.sum_comp (contrEquiv1 dot_S64x512_S512x512_S64x512_1_0_0_1_n_n 512 rfl rfl).symm]
  refine Finset.sum_congr rfl fun k _ => ?_
  congr 2
  · funext x; match x with | ⟨0, _⟩ => rfl | ⟨1, _⟩ => rfl
  · funext x; match x with | ⟨0, _⟩ => rfl | ⟨1, _⟩ => rfl

/-- The second. -/
theorem right_dot (a : FVec Ideal S64x512 .f32) (b : FVec Ideal S512x64 .f32) (p q : Fin 64) :
    matmul dot_S64x512_S512x64_S64x64_1_0_0_1_n_n none a b (constant S64x64 .f32 0x00000000#32) (ix2 p q)
      = ∑ k : Fin 512, a (ix2 p k) * b (ix2 k q) := by
  refine (Ideal.matmul_constant_zero_apply _ none a b (ix2 p q)).trans ?_
  rw [← Equiv.sum_comp (contrEquiv1 dot_S64x512_S512x64_S64x64_1_0_0_1_n_n 512 rfl rfl).symm]
  refine Finset.sum_congr rfl fun k _ => ?_
  congr 2
  · funext x; match x with | ⟨0, _⟩ => rfl | ⟨1, _⟩ => rfl
  · funext x; match x with | ⟨0, _⟩ => rfl | ⟨1, _⟩ => rfl

/-- Adding two leading axes of one element keeps the elements. -/
theorem add2 {α : Type} (w : S64x64.Idx → α) (p q : Fin 64) :
    shapeCast S1x1x64x64 w shapeCasts_S64x64_S1x1x64x64 (ix4 0 0 p q) = w (ix2 p q) := by
  refine shapeCast_apply w _ _ _ ?_
  rw [Shape.rowMajor_val_four, Shape.rowMajor_val_two]
  show p.val * 64 + q.val = ((0 * 1 + 0) * 64 + p.val) * 64 + q.val
  omega

/-- A bin of an image: the mean of the elements' shares over each block. -/
theorem pooled_apply (b : Fin 9) (gx : FVec Ideal S512x512 .f32) (u d : Vec Ideal S1x512x512 .f32) (s : Fin 512 → Fin 512 → ℝ)
    (hc : Clear s) (hx : ∀ i j : Fin 512, gx (ix2 i j) = ((gX s i j : ℝ) : EReal))
    (hy : ∀ i j : Fin 512, k0_pay14 u d (ix2 i j) = ((gY s i j : ℝ) : EReal)) (p q : Fin 64) :
    pooled (word b) (word (b + 8)) gx u d (ix4 0 0 p q) = ((pool s b p q : ℝ) : EReal) := by
  unfold pooled
  rw [add2, right_dot]
  have vb (i j : Fin 512) : (select (cmpf .oeq (truncf .bf16 (binOf gx u d) bitsLt_bf16_f32) (broadcast S512x512 (Scalar.ofBits .bf16 (word b))))
          (truncf .bf16 (k0_pay15 gx u d) bitsLt_bf16_f32)
          (select (cmpf .oeq (truncf .bf16 (binOf gx u d) bitsLt_bf16_f32) (broadcast S512x512 (Scalar.ofBits .bf16 (word (b + 8)))))
            (truncf .bf16 (k0_pay16 gx u d) bitsLt_bf16_f32) (k0_pay28 (F := Ideal)))) (ix2 i j) = ((share s b i j : ℝ) : EReal) := by
    show Scalar.select (FloatOps.cmpf (F := Ideal) (φ := .bf16) .oeq (binOf gx u d (ix2 i j)) (Ideal.ofBits .bf16 (word b))) (k0_pay15 gx u d (ix2 i j))
      (Scalar.select (FloatOps.cmpf (F := Ideal) (φ := .bf16) .oeq (binOf gx u d (ix2 i j)) (Ideal.ofBits .bf16 (word (b + 8))))
        (Ideal.ofBits .f32 0x3F800000#32 - k0_pay15 gx u d (ix2 i j)) (Ideal.ofBits .bf16 0x0000#16)) = _
    rw [binOf_apply gx u d _ _ _ (hx i j) (hy i j) (hc i j).ne_zero, bin_eq, bin_eq, select_if, select_if, mag_apply gx u d _ _ _ (hx i j) (hy i j),
      lit_one, Ideal.ofBits_zero_bf16, ← EReal.coe_sub, share]
    split_ifs <;> rfl
  have row (j : Fin 512) := (left_dot (k0_pay24 (F := Ideal) (iota .tc S64x512 32 [0] iota_S64x512_d0_w32) (iota .tc S64x512 32 [1] iota_S64x512_d1_w32) 8#32 k0_pay22 k0_pay23)
    (select (cmpf .oeq (truncf .bf16 (binOf gx u d) bitsLt_bf16_f32) (broadcast S512x512 (Scalar.ofBits .bf16 (word b))))
          (truncf .bf16 (k0_pay15 gx u d) bitsLt_bf16_f32)
          (select (cmpf .oeq (truncf .bf16 (binOf gx u d) bitsLt_bf16_f32) (broadcast S512x512 (Scalar.ofBits .bf16 (word (b + 8)))))
            (truncf .bf16 (k0_pay16 gx u d) bitsLt_bf16_f32) (k0_pay28 (F := Ideal)))) p j).trans (Finset.sum_congr rfl fun k _ => by
      rw [left_weight, vb, ← EReal.coe_mul])
  refine (Finset.sum_congr rfl fun j _ => by rw [row j, right_weight, ← coe_sum, ← EReal.coe_mul]).trans ?_
  rw [← coe_sum]
  congr 1
  have r (j : Fin 512) : (∑ k : Fin 512, (if k.val / 8 = p.val then 1 / 8 else 0 : ℝ) * share s b k j) = (∑ v : Fin 8, share s b (8 * p + v) j) / 8 :=
    sum_block (fun k => share s b k j) p
  simp only [r]
  rw [Finset.sum_congr rfl fun j _ => mul_comm _ _, sum_block (fun j => (∑ v : Fin 8, share s b (8 * p + v) j) / 8) q, ← Finset.sum_div, Finset.sum_comm, pool]
  ring

end Cert.Hog

end
-- ==== Proof.KBlock.lean ====
module

public import proofs.«01_k».proof.Proof.KPool
public import proofs.«01_k».proof.Proof.Gen.KernelIdeal.Value

@[expose] public section

set_option maxRecDepth 16384

noncomputable section

namespace Cert.Hog

open Cert.KernelIdeal Cert.KernelIdeal.Gen Idealize.ShloMosaic Idealize.ShloMosaic.TcCoe Idealize.SL.Sem
open Idealize.ShloMosaic.ValueIdx
open Idealize.ShloMosaic.Pipeline (Dat)

section Block

variable (arg1 : Memref sig .tc .vmem S4x3x512x512 .f32) (harg1 : arg1.IsWhole)
  (arg3 arg4 : Memref sig .tc .vmem S4x514x512 .f32) (x0 : Vec Ideal S4x3x512x512 .f32)
  (x : Fin 4 → Fin 3 → Fin 512 → Fin 512 → ℝ) (hx : ∀ im ch i j, x0 (ix4 im ch i j) = ((x im ch i j : ℝ) : EReal))

include hx in
/-- The vertical gradient of an image of the block. -/
theorem gradY_apply (im : Fin 4) (i j : Fin 512) :
    k0_pay14 (rows arg4.view (smooths arg1 harg1 x0 im) im 0) (rows arg4.view (smooths arg1 harg1 x0 im) im 2) (ix2 i j)
      = ((gY (grey (x im)) i j : ℝ) : EReal) := by
  show shapeCast S512x512 (rows arg4.view (smooths arg1 harg1 x0 im) im 0) _ (ix2 i j)
    - shapeCast S512x512 (rows arg4.view (smooths arg1 harg1 x0 im) im 2) _ (ix2 i j) = _
  rw [drop1, drop1, smooths_apply arg1 harg1 x0 x hx, smooths_apply arg1 harg1 x0 x hx, ← EReal.coe_sub]
  rfl

include hx in
/-- One store of the block: the means of one bin of one image. -/
theorem piece_apply (im : Fin 4) (b : Fin 9) (hc : Clear (grey (x im))) (p q : Fin 64) :
    (piece arg1 harg1 arg3 arg4 x0 (im, b)).2 (ix4 0 0 p q) = ((pool (grey (x im)) b p q : ℝ) : EReal) :=
  pooled_apply b _ _ _ (grey (x im)) hc (gradX_apply arg1 harg1 arg3 x0 x hx im) (gradY_apply arg1 harg1 arg4 x0 x hx im) p q

include hx in
/-- What a grid point leaves in the output's block. -/
theorem block_apply (hc : ∀ im, Clear (grey (x im))) (c : Dev nD) (i : grid0.Coords) (arg2 : Memref sig .tc .vmem S4x9x64x64 .f32)
    (harg2 : arg2.IsWhole) (harg3 : arg3.IsWhole) (harg4 : arg4.IsWhole) (y : S4x9x64x64.Idx) :
    out0_A_1 c i arg1 harg1 arg2 harg2 arg3 harg3 arg4 harg4 x0 y = ((pool (grey (x (y 0))) (y 1) (y 2) (y 3) : ℝ) : EReal) := by
  have hcov := cover0_A_1 c i arg1 harg1 arg2 harg2 arg3 harg3 arg4 harg4 x0 y
  unfold out0_A_1
  rw [View.read_writes_junk_eq_canon]
  refine View.canon_apply_of_pieces (fun y : S4x9x64x64.Idx => ((pool (grey (x (y 0))) (y 1) (y 2) (y 3) : ℝ) : EReal)) _ ?_ y hcov
  rw [stores]
  intro p hp z
  obtain ⟨⟨im, b⟩, _, rfl⟩ := List.mem_map.1 hp
  have hz : z = ix4 0 0 (z 2) (z 3) := by
    funext a
    match a with
    | ⟨0, _⟩ => exact Fin.ext (Nat.lt_one_iff.1 (z 0).2)
    | ⟨1, _⟩ => exact Fin.ext (Nat.lt_one_iff.1 (z 1).2)
    | ⟨2, _⟩ => rfl
    | ⟨3, _⟩ => rfl
  have e : (Rect.unit (s := S4x9x64x64) ![im.val, b.val, 0, 0] S1x1x64x64.size (inb_bin im b)).emb (ix4 0 0 (z 2) (z 3)) = ix4 im b (z 2) (z 3) := by
    funext a
    match a with
    | ⟨0, _⟩ => exact Fin.ext (show im.val + 1 * 0 = im.val by omega)
    | ⟨1, _⟩ => exact Fin.ext (show b.val + 1 * 0 = b.val by omega)
    | ⟨2, _⟩ => exact Fin.ext (show 0 + 1 * (z 2).val = (z 2).val by omega)
    | ⟨3, _⟩ => exact Fin.ext (show 0 + 1 * (z 3).val = (z 3).val by omega)
  rw [hz]
  refine (piece_apply arg1 harg1 arg3 arg4 x0 x hx im b (hc im) (z 2) (z 3)).trans ?_
  exact (congrArg (fun y : S4x9x64x64.Idx => ((pool (grey (x (y 0))) (y 1) (y 2) (y 3) : ℝ) : EReal)) e).symm

end Block

section Array

variable (m : (ℓ : Loc nD τ sig) → Buf (Elt Ideal) ℓ) (c : Dev nD)
  (x : Fin 32 → Fin 3 → Fin 512 → Fin 512 → ℝ)

/-- The result where the input's elements are reals. -/
def result (x : Fin 32 → Fin 3 → Fin 512 → Fin 512 → ℝ) : FVec Ideal S32x9x64x64 .f32 :=
  fun y => ((pool (grey (x (y 0))) (y 1) (y 2) (y 3) : ℝ) : EReal)

/-- The image a block's image is. -/
def imageOf (t : Fin cfg0.N) (im : Fin 4) : Fin 32 := ⟨4 * t.val + im.val, by have := t.2; have : cfg0.N = 8 := N_0; omega⟩

/-- The input block of a grid point is its four images, whole. -/
theorem in_index : ∀ t : Fin grid0.N, win0_0.index t 0 = t.val ∧ win0_0.index t 1 = 0 ∧ win0_0.index t 2 = 0 ∧ win0_0.index t 3 = 0 := by
  decide +kernel

/-- The output block of a grid point is its four images, whole. -/
theorem out_index : ∀ t : Fin grid0.N, win0_1.index t 0 = t.val ∧ win0_1.index t 1 = 0 ∧ win0_1.index t 2 = 0 ∧ win0_1.index t 3 = 0 := by
  decide +kernel

/-- The block of the input a grid point reads. -/
theorem in_block (hx : ∀ n ch i j, m ((c : Thread nD τ).loc main_arg0) (ix4 n ch i j) = ((x n ch i j : ℝ) : EReal))
    (t : Fin cfg0.N) (im : Fin 4) (ch : Fin 3) (i j : Fin 512) :
    iblk m c 0 t (ix4 im ch i j) = ((x (imageOf t im) ch i j : ℝ) : EReal) := by
  rw [← hx]
  have e := in_index t
  show m ((c : Thread nD τ).loc main_arg0) ((win0_0.rect t).emb (ix4 im ch i j)) = _
  congr 1
  funext a
  apply Fin.ext
  refine (Pipeline.Window.rect_emb_val win0_0 t _ a).trans ?_
  match a with
  | ⟨0, _⟩ => show win0_0.index t 0 * 4 + im.val = 4 * t.val + im.val; rw [e.1]; omega
  | ⟨1, _⟩ => show win0_0.index t 1 * 3 + ch.val = ch.val; rw [e.2.1]; omega
  | ⟨2, _⟩ => show win0_0.index t 2 * 512 + i.val = i.val; rw [e.2.2.1]; omega
  | ⟨3, _⟩ => show win0_0.index t 3 * 512 + j.val = j.val; rw [e.2.2.2]; omega

/-- An index of the block a grid point writes, in the array. -/
theorem out_emb (t : Fin cfg0.N) (y : S4x9x64x64.Idx) : (win0_1.rect t).emb y = (ix4 (imageOf t (y 0)) (y 1) (y 2) (y 3) : S32x9x64x64.Idx) := by
  have e := out_index t
  funext a
  apply Fin.ext
  refine (Pipeline.Window.rect_emb_val win0_1 t _ a).trans ?_
  match a with
  | ⟨0, _⟩ => show win0_1.index t 0 * 4 + (y 0).val = 4 * t.val + (y 0).val; rw [e.1]; omega
  | ⟨1, _⟩ => show win0_1.index t 1 * 9 + (y 1).val = (y 1).val; rw [e.2.1]; omega
  | ⟨2, _⟩ => show win0_1.index t 2 * 64 + (y 2).val = (y 2).val; rw [e.2.2.1]; omega
  | ⟨3, _⟩ => show win0_1.index t 3 * 64 + (y 3).val = (y 3).val; rw [e.2.2.2]; omega

/-- Every index of the array is in some grid point's block. -/
theorem out_cover (i : S32x9x64x64.Idx) : ∃ t : Fin cfg0.N, (cfg0.win 1).flush t = true ∧ i ∈ ((cfg0.win 1).blk t).view.set := by
  have h0 : (i 0).val < 32 := (i 0).isLt
  have hN : cfg0.N = 8 := N_0
  obtain ⟨t, ht⟩ : ∃ t : Fin cfg0.N, t.val = (i 0).val / 4 := ⟨⟨(i 0).val / 4, by omega⟩, rfl⟩
  have e : (win0_1.rect t).emb (ix4 ⟨(i 0).val % 4, by omega⟩ (i 1) (i 2) (i 3) : S4x9x64x64.Idx) = i := by
    rw [out_emb]
    funext a
    match a with
    | ⟨0, _⟩ => exact Fin.ext (show 4 * t.val + (i 0).val % 4 = (i 0).val by omega)
    | ⟨1, _⟩ => rfl
    | ⟨2, _⟩ => rfl
    | ⟨3, _⟩ => rfl
  refine ⟨t, flush0_1 t, ?_⟩
  show i ∈ ((View.whole main_v0).slice (win0_1.rect t)).set
  rw [View.set_slice_whole, ← e]
  exact (win0_1.rect t).idx_mem _

/-- The array the kernel leaves. -/
theorem array_eq (hx : ∀ n ch i j, m ((c : Thread nD τ).loc main_arg0) (ix4 n ch i j) = ((x n ch i j : ℝ) : EReal))
    (hc : ∀ n, Clear (grey (x n))) : (dats m 0 c).arrAt 1 cfg0.N = result x := by
  refine (dats m 0 c).arrAt_eq_of_cover 1 (result x) (fun t _ => ?_) out_cover
  rw [Value.flushed1_A]
  funext y
  refine (block_apply (ms0_0 t) (hs0_0 t) scM0_0 scM0_1 (iblk m c 0 t) (fun im => x (imageOf t im)) (in_block m c x hx t)
    (fun im => hc _) c (grid0.coords t) (ms0_1 t) (hs0_1 t) (Memref.isWhole_whole _) (Memref.isWhole_whole _) y).trans ?_
  exact (congrArg (result x) (out_emb t y)).symm

end Array

end Cert.Hog

end
-- ==== Proof.RGrad.lean ====
module

public import proofs.«01_k».proof.Proof.Model
public import proofs.«01_k».proof.Proof.Words
public import proofs.«01_k».proof.Proof.Gen.ReferenceIdeal.Read
public import Idealize.ShloMosaic.Lib.KernelVsHost
public import Idealize.ShloMosaic.Lib.ValueIdxCore

@[expose] public section

set_option maxRecDepth 16384

noncomputable section

namespace Cert.Hog

open Cert.ReferenceIdeal Cert.ReferenceIdeal.Gen Cert.ReferenceIdeal.Read Idealize.ShloMosaic Idealize.ShloMosaic.TcCoe Idealize.SL.Sem
open Idealize.ShloMosaic.ValueIdx

/-- The Sobel pair. -/
def sobel : Fin 2 → Fin 3 → Fin 3 → ℝ :=
  ![![![1, 0, -1], ![2, 0, -2], ![1, 0, -1]], ![![1, 2, 1], ![0, 0, 0], ![-1, -2, -1]]]

/-- One weight lies in the weights. -/
theorem cut_weight : ∀ (o : Fin 2) (a b : Fin 3), S2x1x3x3.Slices ![o.val, 0, a.val, b.val] S1x1x1x1 := by decide

/-- The moved image lies in the frame. -/
theorem cut_image : ∀ a b : Fin 3, S32x514x514.Slices ![0, a.val, b.val] S32x512x512 := by decide

/-- One product of the correlation: a weight times the framed images moved by its place. -/
def tap (P : FVec Ideal S32x514x514 .f32) (w : FVec Ideal S2x1x3x3 .f32) (o : Fin 2) (a b : Fin 3) : FVec Ideal S32x512x512 .f32 :=
  mulf (broadcastInDim S32x512x512 ![] bcast_S_S32x512x512
      (shapeCast S_ (extractStridedSlice S1x1x1x1 ![o.val, 0, a.val, b.val] w (cut_weight o a b)) shapeCasts_S1x1x1x1_S_))
    (extractStridedSlice S32x512x512 ![0, a.val, b.val] P (cut_image a b))

/-- The correlation with one of the weights: its nine products added one after another, from zero. -/
def conv (P : FVec Ideal S32x514x514 .f32) (w : FVec Ideal S2x1x3x3 .f32) (o : Fin 2) : FVec Ideal S32x512x512 .f32 :=
  [(0, 0), (0, 1), (0, 2), (1, 0), (1, 1), (1, 2), (2, 0), (2, 1), (2, 2)].foldl (fun g p => addf g (tap P w o p.1 p.2))
    (broadcastInDim S32x512x512 ![] bcast_S_S32x512x512 (constant S_ .f32 0x00000000#32))

/-- The reference's first gradient is the correlation with the first weight. -/
theorem first_conv (x0 : FVec Ideal S32x3x512x512 .f32) (w : FVec Ideal S2x1x3x3 .f32) :
    val_main_v58 (F := Ideal) x0 w = conv (val_main_v3 (F := Ideal) x0) w 0 := rfl

/-- The reference's second gradient is the correlation with the second weight. -/
theorem second_conv (x0 : FVec Ideal S32x3x512x512 .f32) (w : FVec Ideal S2x1x3x3 .f32) :
    val_main_v113 (F := Ideal) x0 w = conv (val_main_v3 (F := Ideal) x0) w 1 := rfl

/-- A single element reshaped to a scalar. -/
theorem scalar_reshape (w : FVec Ideal S1x1x1x1 .f32) (j : S_.Idx) : shapeCast S_ w shapeCasts_S1x1x1x1_S_ j = w (ix4 0 0 0 0) := by
  refine shapeCast_apply w _ _ _ ?_
  have h1 : (S1x1x1x1.rowMajor (ix4 0 0 0 0)).val < 1 := lt_of_lt_of_eq (S1x1x1x1.rowMajor (ix4 0 0 0 0)).isLt (by decide)
  have h2 : (S_.rowMajor j).val < 1 := lt_of_lt_of_eq (S_.rowMajor j).isLt (by decide)
  omega

/-- A scalar spread over the images. -/
theorem scalar_broadcast (w : FVec Ideal S_ .f32) (k : S32x512x512.Idx) :
    broadcastInDim S32x512x512 ![] bcast_S_S32x512x512 w k = w (fun a => a.elim0) :=
  broadcastInDim_apply _ bcast_S_S32x512x512 w k (fun a => a.elim0) (fun a => a.elim0)

/-- One product at an element. -/
theorem tap_apply (P : FVec Ideal S32x514x514 .f32) (w : FVec Ideal S2x1x3x3 .f32) (o : Fin 2) (a b : Fin 3) (n : Fin 32) (i j : Fin 512) :
    tap P w o a b (ix3 n i j) = w (ix4 o 0 a b) * P (ix3 n ⟨i.val + a.val, by omega⟩ ⟨j.val + b.val, by omega⟩) := by
  unfold tap
  refine congrArg₂ (fun u v : EReal => u * v) ((scalar_broadcast _ _).trans ((scalar_reshape _ _).trans ?_)) ?_
  · refine extractStridedSlice_apply _ w _ _ _ fun x => ?_
    match x with
    | ⟨0, _⟩ => show o.val = o.val + 0; omega
    | ⟨1, _⟩ => show 0 = 0 + 0; omega
    | ⟨2, _⟩ => show a.val = a.val + 0; omega
    | ⟨3, _⟩ => show b.val = b.val + 0; omega
  · refine extractStridedSlice_apply _ P _ _ _ fun x => ?_
    match x with
    | ⟨0, _⟩ => show n.val = 0 + n.val; omega
    | ⟨1, _⟩ => show i.val + a.val = a.val + i.val; omega
    | ⟨2, _⟩ => show j.val + b.val = b.val + j.val; omega

/-- The correlation at an element, where its operands are reals. -/
theorem conv_apply (P : FVec Ideal S32x514x514 .f32) (w : FVec Ideal S2x1x3x3 .f32) (o : Fin 2) (n : Fin 32) (p : ℕ → ℕ → ℝ)
    (hP : ∀ a b : Fin 514, P (ix3 n a b) = ((p a b : ℝ) : EReal)) (s : Fin 3 → Fin 3 → ℝ)
    (hw : ∀ a b : Fin 3, w (ix4 o 0 a b) = ((s a b : ℝ) : EReal)) (i j : Fin 512) :
    conv P w o (ix3 n i j) = ((∑ a : Fin 3, ∑ b : Fin 3, s a b * p (i + a) (j + b) : ℝ) : EReal) := by
  have ad (f g : FVec Ideal S32x512x512 .f32) : addf f g (ix3 n i j) = f (ix3 n i j) + g (ix3 n i j) := rfl
  have z : broadcastInDim S32x512x512 ![] bcast_S_S32x512x512 (constant (F := Ideal) S_ .f32 0x00000000#32) (ix3 n i j) = ((0 : ℝ) : EReal) := by
    rw [scalar_broadcast]
    exact lit_zero
  simp only [conv, List.foldl_cons, List.foldl_nil, ad, z, tap_apply, hP, hw, ← EReal.coe_mul, ← EReal.coe_add, Fin.sum_univ_three]
  congr 1
  ring

section Input

variable (x0 : FVec Ideal S32x3x512x512 .f32) (w : FVec Ideal S2x1x3x3 .f32) (x : Fin 32 → Fin 3 → Fin 512 → Fin 512 → ℝ)
  (hx : ∀ n ch i j, x0 (ix4 n ch i j) = ((x n ch i j : ℝ) : EReal))
  (hw : ∀ o a b, w (ix4 o 0 a b) = ((sobel o a b : ℝ) : EReal))

include hx in
/-- The reference's greys. -/
theorem mean_apply (n : Fin 32) (i j : Fin 512) : val_main_v2 (F := Ideal) x0 (ix3 n i j) = ((grey (x n) i j : ℝ) : EReal) := by
  rw [val_main_v2_apply, val_main_v0_apply, val_main_v1_apply, val_main_cst_0_apply, val_main_cst_apply]
  have e (k : Fin 3) : x0 (idx_main_v0 (ix3 n i j) k) = ((x n k i j : ℝ) : EReal) := by
    rw [← hx]
    congr 1
    funext a
    match a with | ⟨0, _⟩ => rfl | ⟨1, _⟩ => rfl | ⟨2, _⟩ => rfl | ⟨3, _⟩ => rfl
  simp only [e]
  show Ideal.div (Ideal.ofBits .f32 0x00000000#32 + _) (Ideal.ofBits .f32 0x40400000#32) = _
  rw [lit_zero, lit_three, ← coe_sum, ← EReal.coe_add, Ideal.div_coe (by norm_num), Fin.sum_univ_three, grey, ← EReal.coe_mul]
  congr 1
  ring

include hx in
/-- The reference's greys in their frame of zeros. -/
theorem padded_apply (n : Fin 32) (a b : Fin 514) : val_main_v3 (F := Ideal) x0 (ix3 n a b) = ((pad (grey (x n)) a b : ℝ) : EReal) := by
  have ha := a.2
  have hb := b.2
  unfold val_main_v3
  by_cases h : (1 ≤ a.val ∧ a.val ≤ 512) ∧ 1 ≤ b.val ∧ b.val ≤ 512
  · refine (pad_apply_of_inside _ _ _ _ _ _ _ (ix3 n a b) (ix3 n ⟨a.val - 1, by omega⟩ ⟨b.val - 1, by omega⟩) fun x => ?_).trans ?_
    · match x with
      | ⟨0, _⟩ => show n.val = 0 + n.val * (0 + 1); omega
      | ⟨1, _⟩ => show a.val = 1 + (a.val - 1) * (0 + 1); omega
      | ⟨2, _⟩ => show b.val = 1 + (b.val - 1) * (0 + 1); omega
    · rw [mean_apply x0 x hx, pad, dif_pos h]
  · have z : pad (grey (x n)) a b = 0 := dif_neg h
    rw [z]
    by_cases h1 : 1 ≤ a.val ∧ a.val ≤ 512
    · refine (pad_apply_of_not_inside _ _ _ _ _ _ _ (ix3 n a b) 2 fun q => ?_).trans lit_zero
      obtain ⟨q1, -, q2⟩ : 1 ≤ b.val ∧ (b.val - 1) % (0 + 1) = 0 ∧ (b.val - 1) / (0 + 1) < 512 := q
      omega
    · refine (pad_apply_of_not_inside _ _ _ _ _ _ _ (ix3 n a b) 1 fun q => ?_).trans lit_zero
      obtain ⟨q1, -, q2⟩ : 1 ≤ a.val ∧ (a.val - 1) % (0 + 1) = 0 ∧ (a.val - 1) / (0 + 1) < 512 := q
      omega

include hx hw in
/-- The reference's first gradient. -/
theorem first_apply (n : Fin 32) (i j : Fin 512) : val_main_v58 (F := Ideal) x0 w (ix3 n i j) = ((gX (grey (x n)) i j : ℝ) : EReal) := by
  rw [first_conv, conv_apply _ w 0 n (pad (grey (x n))) (padded_apply x0 x hx n) (sobel 0) (hw 0)]
  congr 1
  simp [Fin.sum_univ_three, sobel, gX, vert]
  ring

include hx hw in
/-- The reference's second gradient. -/
theorem second_apply (n : Fin 32) (i j : Fin 512) : val_main_v113 (F := Ideal) x0 w (ix3 n i j) = ((gY (grey (x n)) i j : ℝ) : EReal) := by
  rw [second_conv, conv_apply _ w 1 n (pad (grey (x n))) (padded_apply x0 x hx n) (sobel 1) (hw 1)]
  congr 1
  simp [Fin.sum_univ_three, sobel, gY, horz]
  ring

end Input

end Cert.Hog

end
-- ==== Proof.RBins.lean ====
module

public import proofs.«01_k».proof.Proof.RGrad

@[expose] public section

set_option maxRecDepth 16384

noncomputable section

namespace Cert.Hog

open Cert.ReferenceIdeal Cert.ReferenceIdeal.Gen Cert.ReferenceIdeal.Read Idealize.ShloMosaic Idealize.ShloMosaic.TcCoe Idealize.SL.Sem
open Idealize.ShloMosaic.ValueIdx

/-- The reference's remainder by nine of a word: the truncating remainder, nine more where it is negative. -/
def wrap (v : BitVec 32) : BitVec 32 :=
  let d := Scalar.select (IntOp.cmpi .eq 9#32 0#32) 1#32 9#32
  let r := IntOp.remsi .host v d
  Scalar.select (IntOp.andi (IntOp.cmpi .ne (IntOp.cmpi .slt r 0#32) (IntOp.cmpi .slt d 0#32)) (IntOp.cmpi .ne r 0#32)) (IntOp.addi r d) r

/-- On the words of the numbers from -9 to 9 it is the remainder from zero to eight. -/
theorem wrap_eq : ∀ k : Fin 19, wrap (BitVec.ofInt 32 ((k.val : ℤ) - 9)) = BitVec.ofNat 32 (k.val % 9) := by
  decide +kernel

/-- A small integer's word. -/
theorem word_of (m : ℤ) (h : -9 ≤ m) (h' : m ≤ 9) : FloatOps.fptosi (F := Ideal) (φ := .f32) 32 (((m : ℤ) : ℝ) : EReal) = BitVec.ofInt 32 m := by
  show BitVec.ofInt 32 (Ideal.toIntClamped _ _ ((m : ℝ) : EReal)) = _
  rw [Ideal.toIntClamped_coe, Int.floor_intCast, Int.ceil_intCast, ite_self]
  congr 1
  norm_num
  omega

/-- The bin's word, from a whole number's conversion. -/
theorem wrap_word (m : ℤ) (h : -9 ≤ m) (h' : m ≤ 9) (c : ℕ) (hc : (c : ℤ) = (m + 9) % 9) :
    wrap (FloatOps.fptosi (F := Ideal) (φ := .f32) 32 (((m : ℤ) : ℝ) : EReal)) = BitVec.ofNat 32 c := by
  rw [word_of m h h']
  have e := wrap_eq ⟨(m + 9).toNat, by omega⟩
  have e1 : (((m + 9).toNat : ℕ) : ℤ) - 9 = m := by omega
  have e2 : (m + 9).toNat % 9 = c := by omega
  rw [← e2]
  conv_lhs => rw [← e1]
  exact e

/-- The one-hot comparison of two bins. -/
theorem hot (c b : ℕ) (hc : c < 9) (hb : b < 9) :
    FloatOps.uitofp (F := Ideal) .f32 (IntOp.cmpi .eq (BitVec.ofNat 32 c) (BitVec.ofNat 32 b)) = (((if c = b then 1 else 0 : ℕ) : ℝ) : EReal) := by
  have e : ∀ c b : Fin 9, (IntOp.cmpi .eq (BitVec.ofNat 32 c.val) (BitVec.ofNat 32 b.val)).toNat = if c.val = b.val then 1 else 0 := by decide
  show (((IntOp.cmpi .eq (BitVec.ofNat 32 c) (BitVec.ofNat 32 b)).toNat : ℝ) : EReal) = _
  rw [e ⟨c, hc⟩ ⟨b, hb⟩]

section Input

variable (x0 : FVec Ideal S32x3x512x512 .f32) (w : FVec Ideal S2x1x3x3 .f32) (x : Fin 32 → Fin 3 → Fin 512 → Fin 512 → ℝ)
  (hx : ∀ n ch i j, x0 (ix4 n ch i j) = ((x n ch i j : ℝ) : EReal))
  (hw : ∀ o a b, w (ix4 o 0 a b) = ((sobel o a b : ℝ) : EReal))

include hx hw in
/-- The direction in units of a bin. -/
theorem phase_apply (n : Fin 32) (i j : Fin 512) :
    val_main_v123 (F := Ideal) x0 w (ix3 n i j) = ((ang (gX (grey (x n)) i j) (gY (grey (x n)) i j) / piLit * 9 : ℝ) : EReal) := by
  rw [val_main_v123_apply, val_main_v121_apply, val_main_v119_apply, first_apply x0 w x hx hw, second_apply x0 w x hx hw,
    val_main_v120_apply, val_main_cst_4_apply, val_main_v122_apply, val_main_cst_5_apply]
  show Ideal.div (Ideal.atan2 _ _) (Ideal.ofBits .f32 0x40490FDB#32) * Ideal.ofBits .f32 0x41100000#32 = _
  rw [lit_pi, lit_nine]
  show Ideal.div ((ang (gX (grey (x n)) i j) (gY (grey (x n)) i j) : ℝ) : EReal) _ * _ = _
  rw [Ideal.div_coe (by norm_num [piLit]), ← EReal.coe_mul, ← EReal.coe_mul]
  congr 1
  ring

include hx hw in
/-- The reference's gradient length. -/
theorem norm_apply (n : Fin 32) (i j : Fin 512) :
    val_main_v117 (F := Ideal) x0 w (ix3 n i j) = ((mag (grey (x n)) i j : ℝ) : EReal) := by
  rw [val_main_v117_apply, val_main_v116_apply, val_main_v114_apply, val_main_v115_apply, first_apply x0 w x hx hw, second_apply x0 w x hx hw]
  show Ideal.sqrt (((gX (grey (x n)) i j : ℝ) : EReal) * ((gX (grey (x n)) i j : ℝ) : EReal)
    + ((gY (grey (x n)) i j : ℝ) : EReal) * ((gY (grey (x n)) i j : ℝ) : EReal)) = _
  rw [← EReal.coe_mul, ← EReal.coe_mul, ← EReal.coe_add, Ideal.sqrt_coe, if_neg (by nlinarith [mul_self_nonneg (gX (grey (x n)) i j), mul_self_nonneg (gY (grey (x n)) i j)])]
  rfl

/-- The lower bin is the remainder of the floor. -/
theorem low_wrap (k : S32x512x512.Idx) : val_main_v126 (F := Ideal) x0 w k
    = wrap (FloatOps.fptosi (F := Ideal) (φ := .f32) 32 (Ideal.liftRound Int.floor (val_main_v123 (F := Ideal) x0 w k))) := rfl

/-- The upper bin is the remainder of the ceiling. -/
theorem high_wrap (k : S32x512x512.Idx) : val_main_v129 (F := Ideal) x0 w k
    = wrap (FloatOps.fptosi (F := Ideal) (φ := .f32) 32 (Ideal.liftRound Int.ceil (val_main_v123 (F := Ideal) x0 w k))) := rfl

include hx hw in
/-- The two bins of an element. -/
theorem bins_apply (n : Fin 32) (i j : Fin 512) (hc : Clear (grey (x n))) : ∃ c : ℕ, c < 9 ∧ cnt (gY (grey (x n)) i j / gX (grey (x n)) i j) = c
    ∧ val_main_v126 (F := Ideal) x0 w (ix3 n i j) = BitVec.ofNat 32 c
    ∧ val_main_v129 (F := Ideal) x0 w (ix3 n i j) = BitVec.ofNat 32 ((c + 1) % 9) := by
  obtain ⟨m, hf, hl, hm⟩ := (hc i j).count
  rw [low_wrap, high_wrap, phase_apply x0 w x hx hw, Ideal.liftRound_coe, Ideal.liftRound_coe, hf, hl]
  refine ⟨cnt (gY (grey (x n)) i j / gX (grey (x n)) i j), by omega, rfl, wrap_word m (by omega) (by omega) _ (by omega),
    wrap_word (m + 1) (by omega) (by omega) _ (by omega)⟩

include hx hw in
/-- An element's contribution to a bin. -/
theorem share_apply (n : Fin 32) (b : Fin 9) (i j : Fin 512) (hc : Clear (grey (x n))) :
    val_main_v138 (F := Ideal) x0 w (ix4 n b i j) = ((share (grey (x n)) b i j : ℝ) : EReal) := by
  obtain ⟨c, c9, e, e1, e2⟩ := bins_apply x0 w x hx hw n i j hc
  have hb := b.2
  have m1 : val_main_v132 (F := Ideal) x0 w (ix4 n b i j) = ((mag (grey (x n)) i j : ℝ) : EReal) := by
    rw [val_main_v132_apply, val_main_v118_apply, ← norm_apply x0 w x hx hw]
    congr 1
    funext a
    match a with | ⟨0, _⟩ => rfl | ⟨1, _⟩ => rfl | ⟨2, _⟩ => rfl
  have m2 : val_main_v136 (F := Ideal) x0 w (ix4 n b i j) = ((1 - mag (grey (x n)) i j : ℝ) : EReal) := by
    rw [val_main_v136_apply, val_main_v135_apply, val_main_v134_apply, val_main_cst_7_apply]
    show Ideal.ofBits .f32 0x3F800000#32 - _ = _
    rw [lit_one, EReal.coe_sub, ← m1, val_main_v132_apply]
  have h1 : val_main_v130 (F := Ideal) x0 w (ix4 n b i j) = (((if c = b.val then 1 else 0 : ℕ) : ℝ) : EReal) := by
    rw [val_main_v130_apply, val_main_call2_v4_apply, val_main_call2_v3_apply, val_main_call2_v1_apply, val_main_call2_v2_apply,
      val_main_call2_v0_apply, ← hot c b.val c9 hb, ← e1]
    congr 3
    funext a
    match a with | ⟨0, _⟩ => rfl | ⟨1, _⟩ => rfl | ⟨2, _⟩ => rfl
  have h2 : val_main_v131 (F := Ideal) x0 w (ix4 n b i j) = (((if (c + 1) % 9 = b.val then 1 else 0 : ℕ) : ℝ) : EReal) := by
    rw [val_main_v131_apply, val_main_call3_v4_apply, val_main_call3_v3_apply, val_main_call3_v1_apply, val_main_call3_v2_apply,
      val_main_call3_v0_apply, ← hot ((c + 1) % 9) b.val (by omega) hb, ← e2]
    congr 3
    funext a
    match a with | ⟨0, _⟩ => rfl | ⟨1, _⟩ => rfl | ⟨2, _⟩ => rfl
  rw [val_main_v138_apply, val_main_v133_apply, val_main_v137_apply, m1, m2, h1, h2]
  show _ * _ + _ * _ = _
  rw [← EReal.coe_mul, ← EReal.coe_mul, ← EReal.coe_add, share, e]
  have e8 : (b + 8 : Fin 9).val = (b.val + 8) % 9 := Fin.val_add b 8
  congr 1
  rw [e8]
  by_cases q1 : c = b.val
  · rw [if_pos q1, if_pos q1, if_neg (by omega)]; simp
  · rw [if_neg q1, if_neg q1]
    by_cases q2 : (c + 1) % 9 = b.val
    · rw [if_pos q2, if_pos (by omega)]; simp
    · rw [if_neg q2, if_neg (by omega)]; simp

end Input

end Cert.Hog

end
-- ==== Proof.RPool.lean ====
module

public import proofs.«01_k».proof.Proof.RBins

@[expose] public section

set_option maxRecDepth 16384

noncomputable section

namespace Cert.Hog

open Cert.ReferenceIdeal Cert.ReferenceIdeal.Gen Cert.ReferenceIdeal.Read Idealize.ShloMosaic Idealize.ShloMosaic.TcCoe Idealize.SL.Sem
open Idealize.ShloMosaic.ValueIdx

/-- Adding one after another is the sum. -/
theorem foldl_sum {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- The shape of one pooling window. -/
abbrev Wd : Shape := ⟨4, ![1, 1, 8, 8]⟩

/-- A window's places are pairs of a row and a column. -/
def cells : Wd.Idx ≃ Fin 8 × Fin 8 where
  toFun y := (y 2, y 3)
  invFun p := ix4 0 0 p.1 p.2
  left_inv y := by
    have h0 : (y 0).val < 1 := (y 0).isLt
    have h1 : (y 1).val < 1 := (y 1).isLt
    funext a
    match a with
    | ⟨0, _⟩ => exact Fin.ext (show 0 = (y 0).val by omega)
    | ⟨1, _⟩ => exact Fin.ext (show 0 = (y 1).val by omega)
    | ⟨2, _⟩ => rfl
    | ⟨3, _⟩ => rfl
  right_inv _ := rfl

/-- The sums over the eight by eight windows. -/
def windows (y : FVec Ideal S32x9x512x512 .f32) (init : FVec Ideal S_ .f32) : FVec Ideal S32x9x64x64 .f32 :=
  Host.reduceWindowAdd ![1, 1, 8, 8] ![1, 1, 8, 8] ![0, 0, 0, 0] ![0, 0, 0, 0] y init
    reduceWindows_S32x9x512x512_S32x9x64x64_w1s1p0_0_w1s1p0_0_w8s8p0_0_w8s8p0_0 h_S_

/-- A window's sum is the double sum over its cells. -/
theorem window_sum (y : FVec Ideal S32x9x512x512 .f32) (init : FVec Ideal S_ .f32) (h0 : ∀ k, init k = 0)
    (n : Fin 32) (b : Fin 9) (p q : Fin 64) :
    windows y init (ix4 n b p q)
      = ∑ u : Fin 8, ∑ v : Fin 8, y (ix4 n b ⟨8 * p.val + u.val, by omega⟩ ⟨8 * q.val + v.val, by omega⟩) := by
  have e : windows y init (ix4 n b p q)
      = (List.finRange Wd.numel).foldl (fun r k => r + y (ix4 n b ⟨8 * p.val + ((cells (Wd.rowMajor.symm k)).1).val, by omega⟩
        ⟨8 * q.val + ((cells (Wd.rowMajor.symm k)).2).val, by omega⟩)) 0 := by
    show Host.reduceWindow (· + ·) ![1, 1, 8, 8] ![1, 1, 8, 8] ![0, 0, 0, 0] ![0, 0, 0, 0] y (fun _ : (⟨0, ![]⟩ : Shape).Idx => init (Shape.Idx.first h_S_))
      reduceWindows_S32x9x512x512_S32x9x64x64_w1s1p0_0_w1s1p0_0_w8s8p0_0_w8s8p0_0 (by decide) (ix4 n b p q) = _
    rw [h0]
    unfold Host.reduceWindow
    refine List.foldl_ext _ _ _ fun r k _ => ?_
    have w0 : (Wd.rowMajor.symm k 0).val < 1 := (Wd.rowMajor.symm k 0).isLt
    have w1 : (Wd.rowMajor.symm k 1).val < 1 := (Wd.rowMajor.symm k 1).isLt
    have w2 : (Wd.rowMajor.symm k 2).val < 8 := (Wd.rowMajor.symm k 2).isLt
    have w3 : (Wd.rowMajor.symm k 3).val < 8 := (Wd.rowMajor.symm k 3).isLt
    have n2 := n.2
    have b2 := b.2
    have p2 := p.2
    have q2 := q.2
    dsimp only
    congr 1
    rw [dif_pos fun a => by
      match a with
      | ⟨0, _⟩ =>
        show 0 ≤ n.val * 1 + (Wd.rowMajor.symm k 0).val ∧ n.val * 1 + (Wd.rowMajor.symm k 0).val - 0 < 32
        omega
      | ⟨1, _⟩ =>
        show 0 ≤ b.val * 1 + (Wd.rowMajor.symm k 1).val ∧ b.val * 1 + (Wd.rowMajor.symm k 1).val - 0 < 9
        omega
      | ⟨2, _⟩ =>
        show 0 ≤ p.val * 8 + (Wd.rowMajor.symm k 2).val ∧ p.val * 8 + (Wd.rowMajor.symm k 2).val - 0 < 512
        omega
      | ⟨3, _⟩ =>
        show 0 ≤ q.val * 8 + (Wd.rowMajor.symm k 3).val ∧ q.val * 8 + (Wd.rowMajor.symm k 3).val - 0 < 512
        omega]
    congr 1
    funext a
    match a with
    | ⟨0, _⟩ => exact Fin.ext (show n.val * 1 + (Wd.rowMajor.symm k 0).val - 0 = n.val by omega)
    | ⟨1, _⟩ => exact Fin.ext (show b.val * 1 + (Wd.rowMajor.symm k 1).val - 0 = b.val by omega)
    | ⟨2, _⟩ => exact Fin.ext (show p.val * 8 + (Wd.rowMajor.symm k 2).val - 0 = 8 * p.val + (Wd.rowMajor.symm k 2).val by omega)
    | ⟨3, _⟩ => exact Fin.ext (show q.val * 8 + (Wd.rowMajor.symm k 3).val - 0 = 8 * q.val + (Wd.rowMajor.symm k 3).val by omega)
  rw [e, foldl_sum, zero_add, ← Fin.sum_univ_def, ← Fintype.sum_prod_type']
  exact Equiv.sum_comp (Wd.rowMajor.symm.trans cells)
    fun c : Fin 8 × Fin 8 => y (ix4 n b ⟨8 * p.val + c.1.val, by omega⟩ ⟨8 * q.val + c.2.val, by omega⟩)

section Input

variable (x0 : FVec Ideal S32x3x512x512 .f32) (w : FVec Ideal S2x1x3x3 .f32) (x : Fin 32 → Fin 3 → Fin 512 → Fin 512 → ℝ)
  (hx : ∀ n ch i j, x0 (ix4 n ch i j) = ((x n ch i j : ℝ) : EReal))
  (hw : ∀ o a b, w (ix4 o 0 a b) = ((sobel o a b : ℝ) : EReal))

/-- The window sums start at zero. -/
theorem zero_apply (k : S_.Idx) : val_main_v139 (F := Ideal) k = 0 := by
  show Ideal.ofBits .f32 0x00000000#32 = 0
  rw [lit_zero, EReal.coe_zero]

include hx hw in
/-- The reference's pooled histogram. -/
theorem windows_apply (hc : ∀ n, Clear (grey (x n))) (n : Fin 32) (b : Fin 9) (p q : Fin 64) :
    val_main_v142 (F := Ideal) x0 w (ix4 n b p q) = ((pool (grey (x n)) b p q : ℝ) : EReal) := by
  have e : val_main_v140 (F := Ideal) x0 w (ix4 n b p q)
      = ∑ u : Fin 8, ∑ v : Fin 8, val_main_v138 (F := Ideal) x0 w (ix4 n b ⟨8 * p.val + u.val, by omega⟩ ⟨8 * q.val + v.val, by omega⟩) := by
    have z : val_main_v140 (F := Ideal) x0 w = windows (val_main_v138 (F := Ideal) x0 w) (val_main_v139 (F := Ideal)) := rfl
    rw [z, window_sum _ _ zero_apply]
  rw [val_main_v142_apply, val_main_v141_apply, val_main_cst_9_apply, e]
  show Ideal.div _ (Ideal.ofBits .f32 0x42800000#32) = _
  rw [lit_cells]
  simp only [share_apply x0 w x hx hw _ _ _ _ (hc n), ← coe_sum]
  rw [Ideal.div_coe (by norm_num), ← EReal.coe_mul]
  congr 1
  rw [pool]
  ring

end Input

end Cert.Hog

end
-- ==== Proof.Real.lean ====
module

public import proofs.«01_k».proof.Proof.RGrad

@[expose] public section

set_option maxRecDepth 16384

noncomputable section

namespace Cert.Hog

open Cert.ReferenceIdeal Cert.ReferenceIdeal.Gen Cert.ReferenceIdeal.Read Idealize.ShloMosaic Idealize.ShloMosaic.TcCoe Idealize.SL.Sem
open Idealize.ShloMosaic.ValueIdx

/-- Neither of the infinities. -/
def IsReal (e : EReal) : Prop := ((e.toReal : ℝ) : EReal) = e

/-- A real number is one. -/
theorem isReal_coe (r : ℝ) : IsReal (r : EReal) := by rw [IsReal, EReal.toReal_coe]

/-- Plus infinity is none. -/
theorem not_isReal_top : ¬ IsReal ⊤ := EReal.coe_ne_top _

/-- Minus infinity is none. -/
theorem not_isReal_bot : ¬ IsReal ⊥ := EReal.coe_ne_bot _

/-- A sum is a real number only if both of its terms are. -/
theorem IsReal.of_add {a b : EReal} (h : IsReal (a + b)) : IsReal a ∧ IsReal b := by
  induction a with
  | bot => rw [EReal.bot_add] at h; exact absurd h not_isReal_bot
  | top =>
    induction b with
    | bot => exact absurd h not_isReal_bot
    | top => exact absurd h not_isReal_top
    | coe r => exact absurd h not_isReal_top
  | coe r =>
    induction b with
    | bot => exact absurd h not_isReal_bot
    | top => exact absurd h not_isReal_top
    | coe s => exact ⟨isReal_coe r, isReal_coe s⟩

/-- A multiple by a number other than zero is a real number only if its other factor is. -/
theorem IsReal.of_mul {c : ℝ} {e : EReal} (hc : c ≠ 0) (h : IsReal ((c : EReal) * e)) : IsReal e := by
  induction e with
  | coe r => exact isReal_coe r
  | top =>
    rcases lt_or_gt_of_ne hc with n | p
    · rw [EReal.coe_mul_top_of_neg n] at h; exact absurd h not_isReal_bot
    · rw [EReal.coe_mul_top_of_pos p] at h; exact absurd h not_isReal_top
  | bot =>
    rcases lt_or_gt_of_ne hc with n | p
    · rw [EReal.coe_mul_bot_of_neg n] at h; exact absurd h not_isReal_top
    · rw [EReal.coe_mul_bot_of_pos p] at h; exact absurd h not_isReal_bot

/-- A correlation is a real number only if its products left and right of the middle one are. -/
theorem conv_real (P : FVec Ideal S32x514x514 .f32) (w : FVec Ideal S2x1x3x3 .f32) (o : Fin 2) (k : S32x512x512.Idx)
    (h : IsReal (conv P w o k)) : IsReal (tap P w o 1 0 k) ∧ IsReal (tap P w o 1 2 k) := by
  have ad (f g : FVec Ideal S32x512x512 .f32) : addf f g k = (f k + g k : EReal) := rfl
  simp only [conv, List.foldl_cons, List.foldl_nil, ad] at h
  have h3 := h.of_add.1.of_add.1.of_add.1
  exact ⟨h3.of_add.1.of_add.1.of_add.2, h3.of_add.2⟩

section Input

variable (x0 : FVec Ideal S32x3x512x512 .f32) (w : FVec Ideal S2x1x3x3 .f32)
  (hw : ∀ o a b, w (ix4 o 0 a b) = ((sobel o a b : ℝ) : EReal))

/-- Inside the frame are the greys. -/
theorem padded_inner (n : Fin 32) (i j : Fin 512) : val_main_v3 (F := Ideal) x0 (ix3 n ⟨i.val + 1, by omega⟩ ⟨j.val + 1, by omega⟩)
    = val_main_v2 (F := Ideal) x0 (ix3 n i j) := by
  unfold val_main_v3
  refine pad_apply_of_inside _ _ _ _ _ _ _ _ (ix3 n i j) fun x => ?_
  match x with
  | ⟨0, _⟩ => show n.val = 0 + n.val * (0 + 1); omega
  | ⟨1, _⟩ => show i.val + 1 = 1 + i.val * (0 + 1); omega
  | ⟨2, _⟩ => show j.val + 1 = 1 + j.val * (0 + 1); omega

/-- The mean of the channels is a real number only if each channel is. -/
theorem mean_real (n : Fin 32) (i j : Fin 512) (h : IsReal (val_main_v2 (F := Ideal) x0 (ix3 n i j))) (k : Fin 3) : IsReal (x0 (ix4 n k i j)) := by
  rw [val_main_v2_apply, val_main_v0_apply, val_main_v1_apply, val_main_cst_0_apply, val_main_cst_apply] at h
  have e (k : Fin 3) : x0 (idx_main_v0 (ix3 n i j) k) = x0 (ix4 n k i j) := by
    congr 1
    funext a
    match a with | ⟨0, _⟩ => rfl | ⟨1, _⟩ => rfl | ⟨2, _⟩ => rfl | ⟨3, _⟩ => rfl
  simp only [e] at h
  change IsReal (Ideal.div (Ideal.ofBits .f32 0x00000000#32 + ∑ k : Fin 3, (x0 (ix4 n k i j) : EReal)) (Ideal.ofBits .f32 0x40400000#32)) at h
  rw [lit_three, Ideal.div_coe (by norm_num), mul_comm, Fin.sum_univ_three] at h
  have s := (h.of_mul (by norm_num)).of_add.2
  match k with
  | 0 => exact s.of_add.1.of_add.1
  | 1 => exact s.of_add.1.of_add.2
  | 2 => exact s.of_add.2

include hw in
/-- An image whose first gradient is a real number at every element has real numbers only. -/
theorem image_real (h : ∀ n i j, IsReal (val_main_v58 (F := Ideal) x0 w (ix3 n i j))) (n : Fin 32) (k : Fin 3) (i j : Fin 512) :
    IsReal (x0 (ix4 n k i j)) := by
  refine mean_real x0 n i j ?_ k
  rw [← padded_inner]
  by_cases hj : j.val = 0
  · have t := (conv_real _ _ _ _ (first_conv x0 w ▸ h n i ⟨1, by omega⟩)).1
    rw [tap_apply, hw] at t
    have r := t.of_mul (by norm_num [sobel])
    convert r using 4
    · rfl
    show j.val + 1 = 1
    omega
  · have hj' := j.2
    have t := (conv_real _ _ _ _ (first_conv x0 w ▸ h n i ⟨j.val - 1, by omega⟩)).2
    rw [tap_apply, hw] at t
    have r := t.of_mul (show (-2 : ℝ) ≠ 0 by norm_num)
    convert r using 4
    · rfl
    show j.val + 1 = j.val - 1 + 2
    omega

/-- Where the direction keeps off the whole numbers, the first gradient is a real number. -/
theorem first_real (k : S32x512x512.Idx)
    (h : ((2⁻¹ ^ 20 : ℝ) : EReal) ≤ val_main_v123 (F := Ideal) x0 w k - Ideal.liftRound Int.floor (val_main_v123 (F := Ideal) x0 w k)) :
    IsReal (val_main_v58 (F := Ideal) x0 w k) := by
  by_contra q
  have a : ∀ y x : EReal, ¬ IsReal y → Ideal.atan2 y x = ⊥ := by
    intro y x hy
    induction y with
    | coe r => exact absurd (isReal_coe r) hy
    | top => induction x <;> rfl
    | bot => induction x <;> rfl
  have b : val_main_v123 (F := Ideal) x0 w k = (⊥ : EReal) := by
    rw [val_main_v123_apply, val_main_v121_apply, val_main_v119_apply, val_main_v120_apply, val_main_cst_4_apply, val_main_v122_apply, val_main_cst_5_apply]
    show Ideal.div (Ideal.atan2 (val_main_v58 (F := Ideal) x0 w k) (val_main_v113 (F := Ideal) x0 w k)) (Ideal.ofBits .f32 0x40490FDB#32) * Ideal.ofBits .f32 0x41100000#32 = ⊥
    rw [a _ _ q, lit_pi, lit_nine, Ideal.div_coe (by norm_num [piLit]), EReal.bot_mul_coe_of_pos (by norm_num [piLit]), EReal.bot_mul_coe_of_pos (by norm_num)]
  rw [b] at h
  exact absurd (le_bot_iff.mp h) (EReal.coe_ne_bot _)

end Input

end Cert.Hog

end
-- ==== Proof.Pre.lean ====
module

public import proofs.«01_k».proof.Proof.RBins
public import proofs.«01_k».proof.Proof.Real
public import proofs.«01_k».proof.Pre_inside_bins

@[expose] public section

set_option maxRecDepth 16384

noncomputable section

namespace Cert.Hog

open Cert.ReferenceIdeal Cert.ReferenceIdeal.Gen Cert.ReferenceIdeal.Read Idealize.ShloMosaic Idealize.ShloMosaic.TcCoe Idealize.SL.Sem
open Idealize.ShloMosaic.ValueIdx

/-- The shape relations the precondition's operations take. -/
theorem pre_facts : Cert.Pre_inside_bins.Facts where
  bcast_S2x3x3_S2x1x3x3_0_2_3 := by decide
  reducesTo_S32x3x512x512_S32x512x512_d1 := by decide
  h_S_ := by decide
  bcast_S_S32x512x512 := by decide
  pads_S32x512x512_S32x514x514_000_110_110 := by decide
  slices_S2x1x3x3_S1x1x1x1_0_0_0_0 := by decide
  shapeCasts_S1x1x1x1_S_ := by decide
  slices_S32x514x514_S32x512x512_0_0_0 := by decide
  slices_S2x1x3x3_S1x1x1x1_0_0_0_1 := by decide
  slices_S32x514x514_S32x512x512_0_0_1 := by decide
  slices_S2x1x3x3_S1x1x1x1_0_0_0_2 := by decide
  slices_S32x514x514_S32x512x512_0_0_2 := by decide
  slices_S2x1x3x3_S1x1x1x1_0_0_1_0 := by decide
  slices_S32x514x514_S32x512x512_0_1_0 := by decide
  slices_S2x1x3x3_S1x1x1x1_0_0_1_1 := by decide
  slices_S32x514x514_S32x512x512_0_1_1 := by decide
  slices_S2x1x3x3_S1x1x1x1_0_0_1_2 := by decide
  slices_S32x514x514_S32x512x512_0_1_2 := by decide
  slices_S2x1x3x3_S1x1x1x1_0_0_2_0 := by decide
  slices_S32x514x514_S32x512x512_0_2_0 := by decide
  slices_S2x1x3x3_S1x1x1x1_0_0_2_1 := by decide
  slices_S32x514x514_S32x512x512_0_2_1 := by decide
  slices_S2x1x3x3_S1x1x1x1_0_0_2_2 := by decide
  slices_S32x514x514_S32x512x512_0_2_2 := by decide
  slices_S2x1x3x3_S1x1x1x1_1_0_0_0 := by decide
  slices_S2x1x3x3_S1x1x1x1_1_0_0_1 := by decide
  slices_S2x1x3x3_S1x1x1x1_1_0_0_2 := by decide
  slices_S2x1x3x3_S1x1x1x1_1_0_1_0 := by decide
  slices_S2x1x3x3_S1x1x1x1_1_0_1_1 := by decide
  slices_S2x1x3x3_S1x1x1x1_1_0_1_2 := by decide
  slices_S2x1x3x3_S1x1x1x1_1_0_2_0 := by decide
  slices_S2x1x3x3_S1x1x1x1_1_0_2_1 := by decide
  slices_S2x1x3x3_S1x1x1x1_1_0_2_2 := by decide

section Input

variable (x0 : FVec Ideal S32x3x512x512 .f32) (w : FVec Ideal S2x1x3x3 .f32)

/-- The Sobel pair as the precondition spells it. -/
def pair : FVec Ideal S2x1x3x3 .f32 :=
  broadcastInDim S2x1x3x3 ![0, 2, 3] pre_facts.bcast_S2x3x3_S2x1x3x3_0_2_3
    (fun i : Cert.Pre_inside_bins.S2x3x3.Idx => FloatOps.ofBits (F := Ideal) .f32 (Cert.Pre_inside_bins.lit0 (Cert.Pre_inside_bins.S2x3x3.rowMajor i)))

/-- The precondition's three results, over the reference's own values. -/
theorem pre_eq : letI := pre_facts; Cert.Pre_inside_bins.fn (F := Ideal) x0 w =
    ((fun k => FloatOps.cmpf (F := Ideal) (φ := .f32) .oeq (w k) (pair k)),
     (fun k => FloatOps.cmpf (F := Ideal) (φ := .f32) .oge (FloatOps.subf (F := Ideal) (φ := .f32) (val_main_v123 (F := Ideal) x0 w k) (Ideal.liftRound Int.floor (val_main_v123 (F := Ideal) x0 w k))) (Ideal.ofBits .f32 0x35800000#32)),
     (fun k => FloatOps.cmpf (F := Ideal) (φ := .f32) .oge (FloatOps.subf (F := Ideal) (φ := .f32) (Ideal.liftRound Int.ceil (val_main_v123 (F := Ideal) x0 w k)) (val_main_v123 (F := Ideal) x0 w k)) (Ideal.ofBits .f32 0x35800000#32))) := rfl

/-- The pair that the precondition spells is the Sobel pair. -/
theorem pair_apply (o : Fin 2) (a b : Fin 3) : pair (ix4 o 0 a b) = ((sobel o a b : ℝ) : EReal) := by
  have e : pair (ix4 o 0 a b) = Ideal.ofBits .f32 (Cert.Pre_inside_bins.lit0 (Cert.Pre_inside_bins.S2x3x3.rowMajor (ix3 o a b))) := by
    unfold pair
    rw [broadcastInDim_apply _ _ _ _ (ix3 o a b) (fun q => by match q with | ⟨0, _⟩ => rfl | ⟨1, _⟩ => rfl | ⟨2, _⟩ => rfl)]
    rfl
  have r0 : ∀ (o : Fin 2) (a b : Fin 3), (Cert.Pre_inside_bins.S2x3x3.rowMajor (ix3 o a b)).val = 9 * o.val + 3 * a.val + b.val := by
    decide
  have r : Cert.Pre_inside_bins.S2x3x3.rowMajor (ix3 o a b) = (⟨9 * o.val + 3 * a.val + b.val, by omega⟩ : Fin 18) :=
    Fin.ext (r0 o a b)
  rw [e, r]
  fin_cases o <;> fin_cases a <;> fin_cases b <;>
    simp [Cert.Pre_inside_bins.lit0, sobel, Ideal.ofBits, Ideal.ieee, -EReal.coe_mul] <;> norm_num

/-- A comparison whose bit is set holds. -/
theorem bit_true (p : Prop) [Decidable p] (h : BitVec.ofBool (decide p) = 1#1) : p := by
  by_contra q
  rw [decide_eq_false q] at h
  exact absurd h (by decide)

/-- What the precondition says, in the model's terms. -/
theorem pre_gives (h : letI := pre_facts; (Cert.Pre_inside_bins.fn (F := Ideal) x0 w).1 = (fun _ => 1#1)
      ∧ (Cert.Pre_inside_bins.fn (F := Ideal) x0 w).2.1 = (fun _ => 1#1)
      ∧ (Cert.Pre_inside_bins.fn (F := Ideal) x0 w).2.2 = (fun _ => 1#1)) :
    ∃ x : Fin 32 → Fin 3 → Fin 512 → Fin 512 → ℝ, (∀ n ch i j, x0 (ix4 n ch i j) = ((x n ch i j : ℝ) : EReal))
      ∧ (∀ o a b, w (ix4 o 0 a b) = ((sobel o a b : ℝ) : EReal)) ∧ ∀ n, Clear (grey (x n)) := by
  rw [pre_eq] at h
  obtain ⟨h2, h3, h4⟩ := h
  have hw : ∀ o a b, w (ix4 o 0 a b) = ((sobel o a b : ℝ) : EReal) := fun o a b =>
    (show w (ix4 o 0 a b) = pair (ix4 o 0 a b) from bit_true _ (congrFun h2 (ix4 o 0 a b))).trans (pair_apply o a b)
  have hx : ∀ n ch i j, x0 (ix4 n ch i j) = (((x0 (ix4 n ch i j)).toReal : ℝ) : EReal) := fun n ch i j =>
    (image_real x0 w hw (fun n i j => first_real x0 w (ix3 n i j) (lit_gap ▸ bit_true _ (congrFun h3 (ix3 n i j)))) n ch i j).symm
  refine ⟨fun n ch i j => (x0 (ix4 n ch i j)).toReal, hx, hw, fun n i j => ?_⟩
  have q3 : Ideal.ofBits .f32 0x35800000#32 ≤ val_main_v123 (F := Ideal) x0 w (ix3 n i j) - Ideal.liftRound Int.floor (val_main_v123 (F := Ideal) x0 w (ix3 n i j)) :=
    bit_true _ (congrFun h3 (ix3 n i j))
  have q4 : Ideal.ofBits .f32 0x35800000#32 ≤ Ideal.liftRound Int.ceil (val_main_v123 (F := Ideal) x0 w (ix3 n i j)) - val_main_v123 (F := Ideal) x0 w (ix3 n i j) :=
    bit_true _ (congrFun h4 (ix3 n i j))
  rw [phase_apply x0 w (fun n ch i j => (x0 (ix4 n ch i j)).toReal) hx hw n i j, lit_gap, Ideal.liftRound_coe, ← EReal.coe_sub, EReal.coe_le_coe_iff] at q3 q4
  exact ⟨q3, q4⟩

end Input

end Cert.Hog

end
-- ==== Proof.lean ====
/- The certificate: the kernel and the reference run and keep their arguments, the named constant is the one it stands
   for, and over the reals both end with the pooled histogram of `Cert.Hog.result`. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.KBlock
public import proofs.«01_k».proof.Proof.RPool
public import proofs.«01_k».proof.Proof.Pre

@[expose] public section

set_option maxRecDepth 16384

noncomputable section

namespace Cert.Proof

open Idealize.ShloMosaic Idealize.ShloMosaic.TcCoe Idealize.ShloMosaic.ValueIdx Idealize.SL.Sem

instance kernelFacts : Cert.Kernel.Facts := Cert.Kernel.Gen.facts
instance kernelIdealFacts : Cert.KernelIdeal.Facts := Cert.KernelIdeal.Gen.facts
instance referenceFacts : Cert.ReferenceIdeal.Facts := Cert.ReferenceIdeal.Gen.facts
instance preFacts : Cert.Pre_inside_bins.Facts := Cert.Hog.pre_facts

/-- The kernel over machine words runs, keeps its arguments and ends with every semaphore at zero. -/
theorem frame_kernel : Cert.quiescent_Kernel := fun m ρ _ => Cert.Kernel.Gen.frame m ρ

/-- So does the kernel over the reals. -/
theorem frame_ideal : Cert.quiescent_KernelIdeal := fun m ρ _ => Cert.KernelIdeal.Gen.frame m ρ

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The constant named in the kernel is one third. -/
theorem preserves : Cert.preserves_Kernel_KernelIdeal :=
  IdealRules.named_const.statement Cert.KernelIdeal.κ "third" .f32 0x3EAAAAAB#32 ((1 / 3 : ℝ) : EReal) rfl

/-- Over the reals the kernel and the reference end with the same pooled histograms. -/
theorem algebraic : Cert.algebraic_KernelIdeal_ReferenceIdeal_pre_inside_bins := by
  intro m g m' g' hpre hagree
  have hp := fun c : Dev Cert.KernelIdeal.nD => Cert.Hog.pre_gives _ _ (hpre c)
  choose x hx hw hc using hp
  refine ⟨fun c => Cert.Hog.result (x c), ?_, ?_⟩
  · refine (θ_run Cert.KernelIdeal.defs _ _).mono (fun r h c => ⟨?_, (h c).2⟩) (Cert.KernelIdeal.Value.run_blocks m g)
    exact (h c).1.trans (Cert.Hog.array_eq m c (x c) (hx c) (hc c))
  · refine (θ_run Cert.ReferenceIdeal.defs _ _).mono (fun r h c => ⟨?_, (h c).2⟩) (Cert.ReferenceIdeal.Value.run (F := Ideal) m' g')
    refine (h c).1.trans ((Cert.ReferenceIdeal.Read.val_main_v142_eq (F := Ideal) (StableHlo.launchContents m' c)).trans ?_)
    have e0 := (hagree c).1
    have e1 := (hagree c).2
    show Cert.ReferenceIdeal.Read.val_main_v142 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = _
    rw [e0, e1]
    funext y
    rw [eq_ix4 y]
    exact Cert.Hog.windows_apply _ _ (x c) (hx c) (hw c) (hc c) (y 0) (y 1) (y 2) (y 3)

/-- All the claims of the certificate. -/
theorem claim : Cert.Claim :=
  ⟨kernelFacts, kernelIdealFacts, referenceFacts, preFacts, frame_kernel, frame_ideal, fun m ρ _ => frame_ideal m ρ trivial,
    frame_reference, fun m ρ _ => frame_reference m ρ trivial, preserves, algebraic⟩

end Cert.Proof

end
